-- ==== Defs.lean ====
def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10)
      ∧ r.2.mem ((c.tc : Thread Cert.PostS.nD Cert.PostS.τ).loc Cert.PostS.main_arg11) = m ((c.tc : Thread Cert.PostS.nD Cert.PostS.τ).loc Cert.PostS.main_arg11)
      ∧ r.2.mem ((c.tc : Thread Cert.PostS.nD Cert.PostS.τ).loc Cert.PostS.main_arg12) = m ((c.tc : Thread Cert.PostS.nD Cert.PostS.τ).loc Cert.PostS.main_arg12)
      ∧ r.2.mem ((c.tc : Thread Cert.PostS.nD Cert.PostS.τ).loc Cert.PostS.main_arg13) = m ((c.tc : Thread Cert.PostS.nD Cert.PostS.τ).loc Cert.PostS.main_arg13))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
      ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
      ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11)
      ∧ r.2.mem ((c.tc : Thread Cert.PostSRefIdeal.nD Cert.PostSRefIdeal.τ).loc Cert.PostSRefIdeal.main_arg12) = m ((c.tc : Thread Cert.PostSRefIdeal.nD Cert.PostSRefIdeal.τ).loc Cert.PostSRefIdeal.main_arg12)
      ∧ r.2.mem ((c.tc : Thread Cert.PostSRefIdeal.nD Cert.PostSRefIdeal.τ).loc Cert.PostSRefIdeal.main_arg13) = m ((c.tc : Thread Cert.PostSRefIdeal.nD Cert.PostSRefIdeal.τ).loc Cert.PostSRefIdeal.main_arg13))
      ∧ r.2.sem = fun _ => 0)

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)) →
    ∃ (v0 : (c : Dev Cert.StepIdeal.nD) → Buf (Elt Ideal) ((c.tc : Thread Cert.StepIdeal.nD Cert.StepIdeal.τ).loc Cert.StepIdeal.main_v177_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v177_1) = v0 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v80) = v0 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v74) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v32_0)) (v1 : (c : Dev Cert.InProjIdeal.nD) → Buf (Elt Ideal) ((c.tc : Thread Cert.InProjIdeal.nD Cert.InProjIdeal.τ).loc Cert.InProjIdeal.main_v32_1)) (v2 : (c : Dev Cert.InProjIdeal.nD) → Buf (Elt Ideal) ((c.tc : Thread Cert.InProjIdeal.nD Cert.InProjIdeal.τ).loc Cert.InProjIdeal.main_v32_2)) (v3 : (c : Dev Cert.InProjIdeal.nD) → Buf (Elt Ideal) ((c.tc : Thread Cert.InProjIdeal.nD Cert.InProjIdeal.τ).loc Cert.InProjIdeal.main_v32_3)) (v4 : (c : Dev Cert.InProjIdeal.nD) → Buf (Elt Ideal) ((c.tc : Thread Cert.InProjIdeal.nD Cert.InProjIdeal.τ).loc Cert.InProjIdeal.main_v32_4)) (v5 : (c : Dev Cert.InProjIdeal.nD) → Buf (Elt Ideal) ((c.tc : Thread Cert.InProjIdeal.nD Cert.InProjIdeal.τ).loc Cert.InProjIdeal.main_v32_5)) (v6 : (c : Dev Cert.InProjIdeal.nD) → Buf (Elt Ideal) ((c.tc : Thread Cert.InProjIdeal.nD Cert.InProjIdeal.τ).loc Cert.InProjIdeal.main_v32_6)) (v7 : (c : Dev Cert.InProjIdeal.nD) → Buf (Elt Ideal) ((c.tc : Thread Cert.InProjIdeal.nD Cert.InProjIdeal.τ).loc Cert.InProjIdeal.main_v32_7)) (v8 : (c : Dev Cert.InProjIdeal.nD) → Buf (Elt Ideal) ((c.tc : Thread Cert.InProjIdeal.nD Cert.InProjIdeal.τ).loc Cert.InProjIdeal.main_v32_8)) (v9 : (c : Dev Cert.InProjIdeal.nD) → Buf (Elt Ideal) ((c.tc : Thread Cert.InProjIdeal.nD Cert.InProjIdeal.τ).loc Cert.InProjIdeal.main_v32_9)) (v10 : (c : Dev Cert.InProjIdeal.nD) → Buf (Elt Ideal) ((c.tc : Thread Cert.InProjIdeal.nD Cert.InProjIdeal.τ).loc Cert.InProjIdeal.main_v32_10)) (v11 : (c : Dev Cert.InProjIdeal.nD) → Buf (Elt Ideal) ((c.tc : Thread Cert.InProjIdeal.nD Cert.InProjIdeal.τ).loc Cert.InProjIdeal.main_v32_11)) (v12 : (c : Dev Cert.InProjIdeal.nD) → Buf (Elt Ideal) ((c.tc : Thread Cert.InProjIdeal.nD Cert.InProjIdeal.τ).loc Cert.InProjIdeal.main_v32_12)) (v13 : (c : Dev Cert.InProjIdeal.nD) → Buf (Elt Ideal) ((c.tc : Thread Cert.InProjIdeal.nD Cert.InProjIdeal.τ).loc Cert.InProjIdeal.main_v32_13)) (v14 : (c : Dev Cert.InProjIdeal.nD) → Buf (Elt Ideal) ((c.tc : Thread Cert.InProjIdeal.nD Cert.InProjIdeal.τ).loc Cert.InProjIdeal.main_v32_14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v32_0) = v0 c
          ∧ r.2.mem ((c.tc : Thread Cert.InProjIdeal.nD Cert.InProjIdeal.τ).loc Cert.InProjIdeal.main_v32_1) = v1 c
          ∧ r.2.mem ((c.tc : Thread Cert.InProjIdeal.nD Cert.InProjIdeal.τ).loc Cert.InProjIdeal.main_v32_2) = v2 c
          ∧ r.2.mem ((c.tc : Thread Cert.InProjIdeal.nD Cert.InProjIdeal.τ).loc Cert.InProjIdeal.main_v32_3) = v3 c
          ∧ r.2.mem ((c.tc : Thread Cert.InProjIdeal.nD Cert.InProjIdeal.τ).loc Cert.InProjIdeal.main_v32_4) = v4 c
          ∧ r.2.mem ((c.tc : Thread Cert.InProjIdeal.nD Cert.InProjIdeal.τ).loc Cert.InProjIdeal.main_v32_5) = v5 c
          ∧ r.2.mem ((c.tc : Thread Cert.InProjIdeal.nD Cert.InProjIdeal.τ).loc Cert.InProjIdeal.main_v32_6) = v6 c
          ∧ r.2.mem ((c.tc : Thread Cert.InProjIdeal.nD Cert.InProjIdeal.τ).loc Cert.InProjIdeal.main_v32_7) = v7 c
          ∧ r.2.mem ((c.tc : Thread Cert.InProjIdeal.nD Cert.InProjIdeal.τ).loc Cert.InProjIdeal.main_v32_8) = v8 c
          ∧ r.2.mem ((c.tc : Thread Cert.InProjIdeal.nD Cert.InProjIdeal.τ).loc Cert.InProjIdeal.main_v32_9) = v9 c
          ∧ r.2.mem ((c.tc : Thread Cert.InProjIdeal.nD Cert.InProjIdeal.τ).loc Cert.InProjIdeal.main_v32_10) = v10 c
          ∧ r.2.mem ((c.tc : Thread Cert.InProjIdeal.nD Cert.InProjIdeal.τ).loc Cert.InProjIdeal.main_v32_11) = v11 c
          ∧ r.2.mem ((c.tc : Thread Cert.InProjIdeal.nD Cert.InProjIdeal.τ).loc Cert.InProjIdeal.main_v32_12) = v12 c
          ∧ r.2.mem ((c.tc : Thread Cert.InProjIdeal.nD Cert.InProjIdeal.τ).loc Cert.InProjIdeal.main_v32_13) = v13 c
          ∧ r.2.mem ((c.tc : Thread Cert.InProjIdeal.nD Cert.InProjIdeal.τ).loc Cert.InProjIdeal.main_v32_14) = v14 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v108) = v0 c
          ∧ r.2.mem ((c.tc : Thread Cert.InProjRefIdeal.nD Cert.InProjRefIdeal.τ).loc Cert.InProjRefIdeal.main_v110) = v1 c
          ∧ r.2.mem ((c.tc : Thread Cert.InProjRefIdeal.nD Cert.InProjRefIdeal.τ).loc Cert.InProjRefIdeal.main_v112) = v2 c
          ∧ r.2.mem ((c.tc : Thread Cert.InProjRefIdeal.nD Cert.InProjRefIdeal.τ).loc Cert.InProjRefIdeal.main_v113) = v3 c
          ∧ r.2.mem ((c.tc : Thread Cert.InProjRefIdeal.nD Cert.InProjRefIdeal.τ).loc Cert.InProjRefIdeal.main_v115) = v4 c
          ∧ r.2.mem ((c.tc : Thread Cert.InProjRefIdeal.nD Cert.InProjRefIdeal.τ).loc Cert.InProjRefIdeal.main_v116) = v5 c
          ∧ r.2.mem ((c.tc : Thread Cert.InProjRefIdeal.nD Cert.InProjRefIdeal.τ).loc Cert.InProjRefIdeal.main_v117) = v6 c
          ∧ r.2.mem ((c.tc : Thread Cert.InProjRefIdeal.nD Cert.InProjRefIdeal.τ).loc Cert.InProjRefIdeal.main_v119) = v7 c
          ∧ r.2.mem ((c.tc : Thread Cert.InProjRefIdeal.nD Cert.InProjRefIdeal.τ).loc Cert.InProjRefIdeal.main_v121) = v8 c
          ∧ r.2.mem ((c.tc : Thread Cert.InProjRefIdeal.nD Cert.InProjRefIdeal.τ).loc Cert.InProjRefIdeal.main_v123) = v9 c
          ∧ r.2.mem ((c.tc : Thread Cert.InProjRefIdeal.nD Cert.InProjRefIdeal.τ).loc Cert.InProjRefIdeal.main_v125) = v10 c
          ∧ r.2.mem ((c.tc : Thread Cert.InProjRefIdeal.nD Cert.InProjRefIdeal.τ).loc Cert.InProjRefIdeal.main_v127) = v11 c
          ∧ r.2.mem ((c.tc : Thread Cert.InProjRefIdeal.nD Cert.InProjRefIdeal.τ).loc Cert.InProjRefIdeal.main_v129) = v12 c
          ∧ r.2.mem ((c.tc : Thread Cert.InProjRefIdeal.nD Cert.InProjRefIdeal.τ).loc Cert.InProjRefIdeal.main_v131) = v13 c
          ∧ r.2.mem ((c.tc : Thread Cert.InProjRefIdeal.nD Cert.InProjRefIdeal.τ).loc Cert.InProjRefIdeal.main_v133) = v14 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v26_0)) (v1 : (c : Dev Cert.InProjSIdeal.nD) → Buf (Elt Ideal) ((c.tc : Thread Cert.InProjSIdeal.nD Cert.InProjSIdeal.τ).loc Cert.InProjSIdeal.main_v26_1)) (v2 : (c : Dev Cert.InProjSIdeal.nD) → Buf (Elt Ideal) ((c.tc : Thread Cert.InProjSIdeal.nD Cert.InProjSIdeal.τ).loc Cert.InProjSIdeal.main_v26_2)) (v3 : (c : Dev Cert.InProjSIdeal.nD) → Buf (Elt Ideal) ((c.tc : Thread Cert.InProjSIdeal.nD Cert.InProjSIdeal.τ).loc Cert.InProjSIdeal.main_v26_3)) (v4 : (c : Dev Cert.InProjSIdeal.nD) → Buf (Elt Ideal) ((c.tc : Thread Cert.InProjSIdeal.nD Cert.InProjSIdeal.τ).loc Cert.InProjSIdeal.main_v26_4)) (v5 : (c : Dev Cert.InProjSIdeal.nD) → Buf (Elt Ideal) ((c.tc : Thread Cert.InProjSIdeal.nD Cert.InProjSIdeal.τ).loc Cert.InProjSIdeal.main_v26_5)) (v6 : (c : Dev Cert.InProjSIdeal.nD) → Buf (Elt Ideal) ((c.tc : Thread Cert.InProjSIdeal.nD Cert.InProjSIdeal.τ).loc Cert.InProjSIdeal.main_v26_6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v26_0) = v0 c
          ∧ r.2.mem ((c.tc : Thread Cert.InProjSIdeal.nD Cert.InProjSIdeal.τ).loc Cert.InProjSIdeal.main_v26_1) = v1 c
          ∧ r.2.mem ((c.tc : Thread Cert.InProjSIdeal.nD Cert.InProjSIdeal.τ).loc Cert.InProjSIdeal.main_v26_2) = v2 c
          ∧ r.2.mem ((c.tc : Thread Cert.InProjSIdeal.nD Cert.InProjSIdeal.τ).loc Cert.InProjSIdeal.main_v26_3) = v3 c
          ∧ r.2.mem ((c.tc : Thread Cert.InProjSIdeal.nD Cert.InProjSIdeal.τ).loc Cert.InProjSIdeal.main_v26_4) = v4 c
          ∧ r.2.mem ((c.tc : Thread Cert.InProjSIdeal.nD Cert.InProjSIdeal.τ).loc Cert.InProjSIdeal.main_v26_5) = v5 c
          ∧ r.2.mem ((c.tc : Thread Cert.InProjSIdeal.nD Cert.InProjSIdeal.τ).loc Cert.InProjSIdeal.main_v26_6) = v6 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v100) = v0 c
          ∧ r.2.mem ((c.tc : Thread Cert.InProjSRefIdeal.nD Cert.InProjSRefIdeal.τ).loc Cert.InProjSRefIdeal.main_v101) = v1 c
          ∧ r.2.mem ((c.tc : Thread Cert.InProjSRefIdeal.nD Cert.InProjSRefIdeal.τ).loc Cert.InProjSRefIdeal.main_v102) = v2 c
          ∧ r.2.mem ((c.tc : Thread Cert.InProjSRefIdeal.nD Cert.InProjSRefIdeal.τ).loc Cert.InProjSRefIdeal.main_v103) = v3 c
          ∧ r.2.mem ((c.tc : Thread Cert.InProjSRefIdeal.nD Cert.InProjSRefIdeal.τ).loc Cert.InProjSRefIdeal.main_v105) = v4 c
          ∧ r.2.mem ((c.tc : Thread Cert.InProjSRefIdeal.nD Cert.InProjSRefIdeal.τ).loc Cert.InProjSRefIdeal.main_v107) = v5 c
          ∧ r.2.mem ((c.tc : Thread Cert.InProjSRefIdeal.nD Cert.InProjSRefIdeal.τ).loc Cert.InProjSRefIdeal.main_v109) = v6 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)
      ∧ m' ((c.tc : Thread Cert.PostSRefIdeal.nD Cert.PostSRefIdeal.τ).loc Cert.PostSRefIdeal.main_arg12) = m ((c.tc : Thread Cert.PostSIdeal.nD Cert.PostSIdeal.τ).loc Cert.PostSIdeal.main_arg12)
      ∧ m' ((c.tc : Thread Cert.PostSRefIdeal.nD Cert.PostSRefIdeal.τ).loc Cert.PostSRefIdeal.main_arg13) = m ((c.tc : Thread Cert.PostSIdeal.nD Cert.PostSIdeal.τ).loc Cert.PostSIdeal.main_arg13)) →
    ∃ (v0 : (c : Dev Cert.PostSIdeal.nD) → Buf (Elt Ideal) ((c.tc : Thread Cert.PostSIdeal.nD Cert.PostSIdeal.τ).loc Cert.PostSIdeal.main_v1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v1) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
          ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
          ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
          ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v73) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10)
          ∧ r.2.mem ((c.tc : Thread Cert.PostSRefIdeal.nD Cert.PostSRefIdeal.τ).loc Cert.PostSRefIdeal.main_arg11) = m' ((c.tc : Thread Cert.PostSRefIdeal.nD Cert.PostSRefIdeal.τ).loc Cert.PostSRefIdeal.main_arg11)
          ∧ r.2.mem ((c.tc : Thread Cert.PostSRefIdeal.nD Cert.PostSRefIdeal.τ).loc Cert.PostSRefIdeal.main_arg12) = m' ((c.tc : Thread Cert.PostSRefIdeal.nD Cert.PostSRefIdeal.τ).loc Cert.PostSRefIdeal.main_arg12)
          ∧ r.2.mem ((c.tc : Thread Cert.PostSRefIdeal.nD Cert.PostSRefIdeal.τ).loc Cert.PostSRefIdeal.main_arg13) = m' ((c.tc : Thread Cert.PostSRefIdeal.nD Cert.PostSRefIdeal.τ).loc Cert.PostSRefIdeal.main_arg13))

def Claim : Prop :=
  ∃ (hStep : Cert.Step.Facts) (hStepIdeal : Cert.StepIdeal.Facts) (hStepRefIdeal : Cert.StepRefIdeal.Facts) (hPost : Cert.Post.Facts) (hPostIdeal : Cert.PostIdeal.Facts) (hPostRefIdeal : Cert.PostRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hPostS : Cert.PostS.Facts) (hPostSIdeal : Cert.PostSIdeal.Facts) (hPostSRefIdeal : Cert.PostSRefIdeal.Facts),
    quiescent_Step (hStep := hStep)
    ∧ quiescent_StepIdeal (hStepIdeal := hStepIdeal)
    ∧ quiescent_StepRefIdeal (hStepRefIdeal := hStepRefIdeal)
    ∧ quiescent_Post (hPost := hPost)
    ∧ quiescent_PostIdeal (hPostIdeal := hPostIdeal)
    ∧ quiescent_PostRefIdeal (hPostRefIdeal := hPostRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_PostS (hPostS := hPostS)
    ∧ quiescent_PostSIdeal (hPostSIdeal := hPostSIdeal)
    ∧ quiescent_PostSRefIdeal (hPostSRefIdeal := hPostSRefIdeal)
    ∧ preserves_Step_StepIdeal
    ∧ algebraic_StepIdeal_StepRefIdeal (hStepIdeal := hStepIdeal) (hStepRefIdeal := hStepRefIdeal)
    ∧ preserves_Post_PostIdeal
    ∧ algebraic_PostIdeal_PostRefIdeal (hPostIdeal := hPostIdeal) (hPostRefIdeal := hPostRefIdeal)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_PostS_PostSIdeal
    ∧ algebraic_PostSIdeal_PostSRefIdeal (hPostSIdeal := hPostSIdeal) (hPostSRefIdeal := hPostSRefIdeal)
-- ==== Step.lean ====
abbrev S32x512 : Shape := ⟨2, ![32, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x32x32x64 : Shape := ⟨4, ![1, 32, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S9 : Shape := ⟨1, ![9]⟩
abbrev S9x1x1 : Shape := ⟨3, ![9, 1, 1]⟩
abbrev S9x32x64 : Shape := ⟨3, ![9, 32, 64]⟩
abbrev S4x8x16x64 : Shape := ⟨4, ![4, 8, 16, 64]⟩
abbrev S4x8x64x16 : Shape := ⟨4, ![4, 8, 64, 16]⟩
abbrev S9x4x8x64 : Shape := ⟨4, ![9, 4, 8, 64]⟩
abbrev S1x4x8x16x64 : Shape := ⟨5, ![1, 4, 8, 16, 64]⟩
abbrev S9x4x8x1x64 : Shape := ⟨5, ![9, 4, 8, 1, 64]⟩
abbrev S9x4x8x16x64 : Shape := ⟨5, ![9, 4, 8, 16, 64]⟩
abbrev S8x4x8x16x64 : Shape := ⟨5, ![8, 4, 8, 16, 64]⟩
abbrev S4x8x16x8x16 : Shape := ⟨5, ![4, 8, 16, 8, 16]⟩
abbrev S4x128x128 : Shape := ⟨3, ![4, 128, 128]⟩
abbrev S8x4x8x64 : Shape := ⟨4, ![8, 4, 8, 64]⟩
abbrev S8x4x8x64x1 : Shape := ⟨5, ![8, 4, 8, 64, 1]⟩
abbrev S1x4x8x64x16 : Shape := ⟨5, ![1, 4, 8, 64, 16]⟩
abbrev S8x4x8x64x16 : Shape := ⟨5, ![8, 4, 8, 64, 16]⟩
abbrev S4x8x8x16x64 : Shape := ⟨5, ![4, 8, 8, 16, 64]⟩
abbrev S4x8x8x16x128 : Shape := ⟨5, ![4, 8, 8, 16, 128]⟩
abbrev S4x1024x128 : Shape := ⟨3, ![4, 1024, 128]⟩
abbrev S4x8x64x8x16 : Shape := ⟨5, ![4, 8, 64, 8, 16]⟩
abbrev S4x16x64x8x16 : Shape := ⟨5, ![4, 16, 64, 8, 16]⟩
abbrev S8 : Shape := ⟨1, ![8]⟩
abbrev S8x1x1 : Shape := ⟨3, ![8, 1, 1]⟩
abbrev S8x32x64 : Shape := ⟨3, ![8, 32, 64]⟩
abbrev S8x4x512 : Shape := ⟨3, ![8, 4, 512]⟩
abbrev S4x8x512 : Shape := ⟨3, ![4, 8, 512]⟩
abbrev S4x8x1024 : Shape := ⟨3, ![4, 8, 1024]⟩
abbrev S4x1x512 : Shape := ⟨3, ![4, 1, 512]⟩
abbrev S4x1x1024 : Shape := ⟨3, ![4, 1, 1024]⟩
abbrev S32x32x64 : Shape := ⟨3, ![32, 32, 64]⟩
abbrev S32x4x512 : Shape := ⟨3, ![32, 4, 512]⟩
abbrev S32x4x1024 : Shape := ⟨3, ![32, 4, 1024]⟩
abbrev S4x32x1024 : Shape := ⟨3, ![4, 32, 1024]⟩
abbrev S128x128 : Shape := ⟨2, ![128, 128]⟩
abbrev S128x1024 : Shape := ⟨2, ![128, 1024]⟩
abbrev S1024x128 : Shape := ⟨2, ![1024, 128]⟩
abbrev S1x128x128 : Shape := ⟨3, ![1, 128, 128]⟩
abbrev S1x1024x128 : Shape := ⟨3, ![1, 1024, 128]⟩
abbrev S32x128 : Shape := ⟨2, ![32, 128]⟩
abbrev S1x32x1024 : Shape := ⟨3, ![1, 32, 1024]⟩
abbrev S32x1024 : Shape := ⟨2, ![32, 1024]⟩
abbrev S1x1x512 : Shape := ⟨3, ![1, 1, 512]⟩
abbrev S1x128 : Shape := ⟨2, ![1, 128]⟩

abbrev nBuf : Space → Nat
  | .hbm => 196
  | .vmem => 9
  | .smem => 0
  | _ => 0

abbrev hbmTy0_0 (i : Nat) : BufTy := match i % 128 with
  | 0 => ⟨S32x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x512, .f32⟩
  | 9 => ⟨S1x32x32x64, .f32⟩
  | 10 => ⟨S1x32x32x64, .f32⟩
  | 11 => ⟨S32x64, .f32⟩
  | 12 => ⟨S32x64, .f32⟩
  | 13 => ⟨S32, .f32⟩
  | 14 => ⟨S32x64x16, .f32⟩
  | 15 => ⟨S32x64x16, .f32⟩
  | 16 => ⟨S32x16x64, .f32⟩
  | 17 => ⟨S32x16x64, .f32⟩
  | 18 => ⟨S32, .f32⟩
  | 19 => ⟨S32x1, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S_, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S_, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64x1, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x16, .f32⟩
  | 54 => ⟨S32x64x1, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x16, .f32⟩
  | 61 => ⟨S9, .f32⟩
  | 62 => ⟨S9x1x1, .f32⟩
  | 63 => ⟨S1x32x64, .f32⟩
  | 64 => ⟨S9x32x64, .f32⟩
  | 65 => ⟨S9x32x64, .f32⟩
  | 66 => ⟨S9x32x64, .f32⟩
  | 67 => ⟨S9x32x64, .f32⟩
  | 68 => ⟨S1x32x64, .f32⟩
  | 69 => ⟨S9x32x64, .f32⟩
  | 70 => ⟨S9x32x64, .f32⟩
  | 71 => ⟨S9x32x64, .f32⟩
  | 72 => ⟨S9x32x64, .f32⟩
  | 73 => ⟨S9x32x64, .f32⟩
  | 74 => ⟨S1x32x64, .f32⟩
  | 75 => ⟨S9x32x64, .f32⟩
  | 76 => ⟨S9x32x64, .f32⟩
  | 77 => ⟨S9x32x64, .f32⟩
  | 78 => ⟨S9x32x64, .f32⟩
  | 79 => ⟨S9x32x64, .f32⟩
  | 80 => ⟨S4x8x16x64, .f32⟩
  | 81 => ⟨S4x8x16x64, .f32⟩
  | 82 => ⟨S4x8x64x16, .f32⟩
  | 83 => ⟨S4x8x64x16, .f32⟩
  | 84 => ⟨S9x4x8x64, .f32⟩
  | 85 => ⟨S9x4x8x64, .f32⟩
  | 86 => ⟨S1x4x8x16x64, .f32⟩
  | 87 => ⟨S9x4x8x1x64, .f32⟩
  | 88 => ⟨S9x4x8x16x64, .f32⟩
  | 89 => ⟨S9x4x8x16x64, .f32⟩
  | 90 => ⟨S9x4x8x16x64, .f32⟩
  | 91 => ⟨S1x4x8x16x64, .f32⟩
  | 92 => ⟨S9x4x8x1x64, .f32⟩
  | 93 => ⟨S9x4x8x16x64, .f32⟩
  | 94 => ⟨S9x4x8x16x64, .f32⟩
  | 95 => ⟨S9x4x8x16x64, .f32⟩
  | 96 => ⟨S9x4x8x16x64, .f32⟩
  | 97 => ⟨S1x4x8x16x64, .f32⟩
  | 98 => ⟨S9x4x8x1x64, .f32⟩
  | 99 => ⟨S9x4x8x16x64, .f32⟩
  | 100 => ⟨S9x4x8x16x64, .f32⟩
  | 101 => ⟨S9x4x8x16x64, .f32⟩
  | 102 => ⟨S1x4x8x16x64, .f32⟩
  | 103 => ⟨S9x4x8x1x64, .f32⟩
  | 104 => ⟨S9x4x8x16x64, .f32⟩
  | 105 => ⟨S9x4x8x16x64, .f32⟩
  | 106 => ⟨S9x4x8x16x64, .f32⟩
  | 107 => ⟨S9x4x8x16x64, .f32⟩
  | 108 => ⟨S8x4x8x16x64, .f32⟩
  | 109 => ⟨S4x8x16x8x16, .f32⟩
  | 110 => ⟨S8x4x8x16x64, .f32⟩
  | 111 => ⟨S4x8x16x8x16, .f32⟩
  | 112 => ⟨S4x8x16x8x16, .f32⟩
  | 113 => ⟨S4x128x128, .f32⟩
  | 114 => ⟨S8x4x8x64, .f32⟩
  | 115 => ⟨S8x4x8x64, .f32⟩
  | 116 => ⟨S8x4x8x64x1, .f32⟩
  | 117 => ⟨S8x4x8x64, .f32⟩
  | 118 => ⟨S8x4x8x64, .f32⟩
  | 119 => ⟨S8x4x8x64x1, .f32⟩
  | 120 => ⟨S1x4x8x64x16, .f32⟩
  | 121 => ⟨S8x4x8x64x16, .f32⟩
  | 122 => ⟨S8x4x8x64x16, .f32⟩
  | 123 => ⟨S8x4x8x64x16, .f32⟩
  | 124 => ⟨S1x4x8x64x16, .f32⟩
  | 125 => ⟨S8x4x8x64x16, .f32⟩
  | 126 => ⟨S8x4x8x64x16, .f32⟩
  | 127 => ⟨S8x4x8x64x16, .f32⟩
  | _ => ⟨S32x512, .f32⟩

abbrev hbmTy0_1 (i : Nat) : BufTy := match i % 128 with
  | 0 => ⟨S8x4x8x64x16, .f32⟩
  | 1 => ⟨S4x8x8x16x64, .f32⟩
  | 2 => ⟨S1x4x8x64x16, .f32⟩
  | 3 => ⟨S8x4x8x64x16, .f32⟩
  | 4 => ⟨S8x4x8x64x16, .f32⟩
  | 5 => ⟨S8x4x8x64x16, .f32⟩
  | 6 => ⟨S1x4x8x64x16, .f32⟩
  | 7 => ⟨S8x4x8x64x16, .f32⟩
  | 8 => ⟨S8x4x8x64x16, .f32⟩
  | 9 => ⟨S8x4x8x64x16, .f32⟩
  | 10 => ⟨S8x4x8x64x16, .f32⟩
  | 11 => ⟨S4x8x8x16x64, .f32⟩
  | 12 => ⟨S4x8x8x16x128, .f32⟩
  | 13 => ⟨S4x1024x128, .f32⟩
  | 14 => ⟨S8x4x8x16x64, .f32⟩
  | 15 => ⟨S4x8x64x8x16, .f32⟩
  | 16 => ⟨S8x4x8x16x64, .f32⟩
  | 17 => ⟨S4x8x64x8x16, .f32⟩
  | 18 => ⟨S4x8x64x8x16, .f32⟩
  | 19 => ⟨S4x16x64x8x16, .f32⟩
  | 20 => ⟨S4x1024x128, .f32⟩
  | 21 => ⟨S8, .f32⟩
  | 22 => ⟨S_, .f32⟩
  | 23 => ⟨S8, .f32⟩
  | 24 => ⟨S8, .f32⟩
  | 25 => ⟨S8x1x1, .f32⟩
  | 26 => ⟨S_, .f32⟩
  | 27 => ⟨S32x64, .f32⟩
  | 28 => ⟨S32x64, .f32⟩
  | 29 => ⟨S1x32x64, .f32⟩
  | 30 => ⟨S8x32x64, .f32⟩
  | 31 => ⟨S8x32x64, .f32⟩
  | 32 => ⟨S8x32x64, .f32⟩
  | 33 => ⟨S8x32x64, .f32⟩
  | 34 => ⟨S_, .f32⟩
  | 35 => ⟨S32x64, .f32⟩
  | 36 => ⟨S32x64, .f32⟩
  | 37 => ⟨S1x32x64, .f32⟩
  | 38 => ⟨S8x32x64, .f32⟩
  | 39 => ⟨S8x32x64, .f32⟩
  | 40 => ⟨S8x32x64, .f32⟩
  | 41 => ⟨S8x32x64, .f32⟩
  | 42 => ⟨S8x32x64, .f32⟩
  | 43 => ⟨S8x4x512, .f32⟩
  | 44 => ⟨S4x8x512, .f32⟩
  | 45 => ⟨S_, .f32⟩
  | 46 => ⟨S32x64, .f32⟩
  | 47 => ⟨S32x64, .f32⟩
  | 48 => ⟨S1x32x64, .f32⟩
  | 49 => ⟨S8x32x64, .f32⟩
  | 50 => ⟨S8x32x64, .f32⟩
  | 51 => ⟨S8x32x64, .f32⟩
  | 52 => ⟨S8x32x64, .f32⟩
  | 53 => ⟨S8x32x64, .f32⟩
  | 54 => ⟨S8x4x512, .f32⟩
  | 55 => ⟨S4x8x512, .f32⟩
  | 56 => ⟨S4x8x1024, .f32⟩
  | 57 => ⟨S4x1x512, .f32⟩
  | 58 => ⟨S4x1x512, .f32⟩
  | 59 => ⟨S4x1x1024, .f32⟩
  | 60 => ⟨S32x32x64, .f32⟩
  | 61 => ⟨S32x32x64, .f32⟩
  | 62 => ⟨S32x4x512, .f32⟩
  | 63 => ⟨S32x4x512, .f32⟩
  | 64 => ⟨S32x4x1024, .f32⟩
  | 65 => ⟨S4x32x1024, .f32⟩
  | 66 => ⟨S32x512, .f32⟩
  | 67 => ⟨S4x32x1024, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | .local _ .vmem, ⟨0, _⟩ => ⟨S32x512, .f32⟩
  | .local _ .vmem, ⟨1, _⟩ => ⟨S4x128x128, .f32⟩
  | .local _ .vmem, ⟨2, _⟩ => ⟨S4x1024x128, .f32⟩
  | .local _ .vmem, ⟨3, _⟩ => ⟨S4x1024x128, .f32⟩
  | .local _ .vmem, ⟨4, _⟩ => ⟨S4x1x1024, .f32⟩
  | .local _ .vmem, ⟨5, _⟩ => ⟨S1x512, .f32⟩
  | .local _ .vmem, ⟨6, _⟩ => ⟨S4x32x1024, .f32⟩
  | .local _ .vmem, ⟨7, _⟩ => ⟨S32x512, .f32⟩
  | .local _ .vmem, ⟨8, _⟩ => ⟨S4x32x1024, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_cst_1 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_cst_2 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_cst_3 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_cst_4 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177_0 : Ref sig .tc := ⟨.hbm, 194, rfl⟩
abbrev main_v177_1 : Ref sig .tc := ⟨.hbm, 195, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== StepRefIdeal.lean ====
abbrev S32x512 : Shape := ⟨2, ![32, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S1x32x32x64 : Shape := ⟨4, ![1, 32, 32, 64]⟩
abbrev S32x32x16 : Shape := ⟨3, ![32, 32, 16]⟩
abbrev S32x64 : Shape := ⟨2, ![32, 64]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S32x64x16 : Shape := ⟨3, ![32, 64, 16]⟩
abbrev S32x32x64 : Shape := ⟨3, ![32, 32, 64]⟩
abbrev S32x4x512 : Shape := ⟨3, ![32, 4, 512]⟩
abbrev S32x4x1024 : Shape := ⟨3, ![32, 4, 1024]⟩
abbrev S4x32x1024 : Shape := ⟨3, ![4, 32, 1024]⟩

abbrev nBuf : Space → Nat
  | .hbm => 94
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S1x32x64, .f32⟩
  | .hbm, ⟨2, _⟩ => ⟨S1x32x64, .f32⟩
  | .hbm, ⟨3, _⟩ => ⟨S1x32, .f32⟩
  | .hbm, ⟨4, _⟩ => ⟨S1x32x64x16, .f32⟩
  | .hbm, ⟨5, _⟩ => ⟨S1x32x64x16, .f32⟩
  | .hbm, ⟨6, _⟩ => ⟨S1x32x16x64, .f32⟩
  | .hbm, ⟨7, _⟩ => ⟨S1x32x16x64, .f32⟩
  | .hbm, ⟨8, _⟩ => ⟨S1x512, .f32⟩
  | .hbm, ⟨9, _⟩ => ⟨S1x32x32x64, .f32⟩
  | .hbm, ⟨10, _⟩ => ⟨S1x32x32x64, .f32⟩
  | .hbm, ⟨11, _⟩ => ⟨S32x32x16, .f32⟩
  | .hbm, ⟨12, _⟩ => ⟨S32x64, .f32⟩
  | .hbm, ⟨13, _⟩ => ⟨S32x64, .f32⟩
  | .hbm, ⟨14, _⟩ => ⟨S32, .f32⟩
  | .hbm, ⟨15, _⟩ => ⟨S32, .f32⟩
  | .hbm, ⟨16, _⟩ => ⟨S32x1, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S_, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S32x64x1, .f32⟩
  | .hbm, ⟨49, _⟩ => ⟨S32x64x16, .f32⟩
  | .hbm, ⟨50, _⟩ => ⟨S32x64x16, .f32⟩
  | .hbm, ⟨51, _⟩ => ⟨S32x64x16, .f32⟩
  | .hbm, ⟨52, _⟩ => ⟨S32x64x1, .f32⟩
  | .hbm, ⟨53, _⟩ => ⟨S32x64x16, .f32⟩
  | .hbm, ⟨54, _⟩ => ⟨S32x64x16, .f32⟩
  | .hbm, ⟨55, _⟩ => ⟨S32x64x16, .f32⟩
  | .hbm, ⟨56, _⟩ => ⟨S32x64x16, .f32⟩
  | .hbm, ⟨57, _⟩ => ⟨S32x64x1, .f32⟩
  | .hbm, ⟨58, _⟩ => ⟨S32x64x16, .f32⟩
  | .hbm, ⟨59, _⟩ => ⟨S32x64x16, .f32⟩
  | .hbm, ⟨60, _⟩ => ⟨S32x64x16, .f32⟩
  | .hbm, ⟨61, _⟩ => ⟨S32x64x1, .f32⟩
  | .hbm, ⟨62, _⟩ => ⟨S32x64x16, .f32⟩
  | .hbm, ⟨63, _⟩ => ⟨S32x64x16, .f32⟩
  | .hbm, ⟨64, _⟩ => ⟨S32x64x16, .f32⟩
  | .hbm, ⟨65, _⟩ => ⟨S32x64x16, .f32⟩
  | .hbm, ⟨66, _⟩ => ⟨S32x32x64, .f32⟩
  | .hbm, ⟨67, _⟩ => ⟨S32x32x64, .f32⟩
  | .hbm, ⟨68, _⟩ => ⟨S1x32x64, .f32⟩
  | .hbm, ⟨69, _⟩ => ⟨S32x32x64, .f32⟩
  | .hbm, ⟨70, _⟩ => ⟨S32x32x64, .f32⟩
  | .hbm, ⟨71, _⟩ => ⟨S32x32x64, .f32⟩
  | .hbm, ⟨72, _⟩ => ⟨S1x32x64, .f32⟩
  | .hbm, ⟨73, _⟩ => ⟨S32x32x64, .f32⟩
  | .hbm, ⟨74, _⟩ => ⟨S32x32x64, .f32⟩
  | .hbm, ⟨75, _⟩ => ⟨S32x32x64, .f32⟩
  | .hbm, ⟨76, _⟩ => ⟨S32x32x64, .f32⟩
  | .hbm, ⟨77, _⟩ => ⟨S32x32x64, .f32⟩
  | .hbm, ⟨78, _⟩ => ⟨S32x32x64, .f32⟩
  | .hbm, ⟨79, _⟩ => ⟨S32x32x64, .f32⟩
  | .hbm, ⟨80, _⟩ => ⟨S1x32x64, .f32⟩
  | .hbm, ⟨81, _⟩ => ⟨S32x32x64, .f32⟩
  | .hbm, ⟨82, _⟩ => ⟨S32x32x64, .f32⟩
  | .hbm, ⟨83, _⟩ => ⟨S32x32x64, .f32⟩
  | .hbm, ⟨84, _⟩ => ⟨S1x32x64, .f32⟩
  | .hbm, ⟨85, _⟩ => ⟨S32x32x64, .f32⟩
  | .hbm, ⟨86, _⟩ => ⟨S32x32x64, .f32⟩
  | .hbm, ⟨87, _⟩ => ⟨S32x32x64, .f32⟩
  | .hbm, ⟨88, _⟩ => ⟨S32x32x64, .f32⟩
  | .hbm, ⟨89, _⟩ => ⟨S32x32x64, .f32⟩
  | .hbm, ⟨90, _⟩ => ⟨S32x4x512, .f32⟩
  | .hbm, ⟨91, _⟩ => ⟨S32x4x512, .f32⟩
  | .hbm, ⟨92, _⟩ => ⟨S32x4x1024, .f32⟩
  | .hbm, ⟨93, _⟩ => ⟨S4x32x1024, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S512x1024, .bf16⟩
  | .hbm, ⟨6, _⟩ => ⟨S512x512, .bf16⟩
  | .hbm, ⟨7, _⟩ => ⟨S1x512, .f32⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x512, .bf16⟩
  | .local _ .vmem, ⟨12, _⟩ => ⟨S1x512, .f32⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x5632, .bf16⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostRefIdeal.lean ====
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S512 : Shape := ⟨1, ![512]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S512x1024, .bf16⟩
  | .hbm, ⟨6, _⟩ => ⟨S512x512, .bf16⟩
  | .hbm, ⟨7, _⟩ => ⟨S1x512, .f32⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S16384x512, .f32⟩
  | .hbm, ⟨15, _⟩ => ⟨S512x1024, .f32⟩
  | .hbm, ⟨16, _⟩ => ⟨S16384x1024, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S512x512, .f32⟩
  | .hbm, ⟨35, _⟩ => ⟨S16384x512, .f32⟩
  | .hbm, ⟨36, _⟩ => ⟨S512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S512x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1024x1024, .f32⟩
  | .hbm, ⟨57, _⟩ => ⟨S16384x1024, .f32⟩
  | .hbm, ⟨58, _⟩ => ⟨S16384x1024, .f32⟩
  | .hbm, ⟨59, _⟩ => ⟨S1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S1024x5632, .f32⟩
  | .hbm, ⟨77, _⟩ => ⟨S16384x5632, .f32⟩
  | .hbm, ⟨78, _⟩ => ⟨S16384x2816, .f32⟩
  | .hbm, ⟨79, _⟩ => ⟨S16384x2816, .f32⟩
  | .hbm, ⟨80, _⟩ => ⟨S16384x2816, .f32⟩
  | .hbm, ⟨81, _⟩ => ⟨S16384x2816, .f32⟩
  | .hbm, ⟨82, _⟩ => ⟨S_, .f32⟩
  | .hbm, ⟨83, _⟩ => ⟨S16384x2816, .f32⟩
  | .hbm, ⟨84, _⟩ => ⟨S16384x2816, .f32⟩
  | .hbm, ⟨85, _⟩ => ⟨S_, .f32⟩
  | .hbm, ⟨86, _⟩ => ⟨S16384x2816, .f32⟩
  | .hbm, ⟨87, _⟩ => ⟨S16384x2816, .f32⟩
  | .hbm, ⟨88, _⟩ => ⟨S16384x2816, .f32⟩
  | .hbm, ⟨89, _⟩ => ⟨S16384x2816, .f32⟩
  | .hbm, ⟨90, _⟩ => ⟨S2816x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384x1024, .f32⟩
  | .hbm, ⟨105, _⟩ => ⟨S16384x1024, .f32⟩
  | .hbm, ⟨106, _⟩ => ⟨S1x1024, .f32⟩
  | .hbm, ⟨107, _⟩ => ⟨S16384x1024, .f32⟩
  | .hbm, ⟨108, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== InProj.lean ====
abbrev S4x4096x1024 : Shape := ⟨3, ![4, 4096, 1024]⟩
abbrev S1x1024 : Shape := ⟨2, ![1, 1024]⟩
abbrev S1024x4096 : Shape := ⟨2, ![1024, 4096]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S512x1024 : Shape := ⟨2, ![512, 1024]⟩
abbrev S512x512 : Shape := ⟨2, ![512, 512]⟩
abbrev S1024x1024 : Shape := ⟨2, ![1024, 1024]⟩
abbrev S1024x5632 : Shape := ⟨2, ![1024, 5632]⟩
abbrev S2816x1024 : Shape := ⟨2, ![2816, 1024]⟩
abbrev S4x16x512x256 : Shape := ⟨4, ![4, 16, 512, 256]⟩
abbrev S4x512x4096 : Shape := ⟨3, ![4, 512, 4096]⟩
abbrev S16384x512 : Shape := ⟨2, ![16384, 512]⟩
abbrev S4x16x1x512 : Shape := ⟨4, ![4, 16, 1, 512]⟩
abbrev S1024x128 : Shape := ⟨2, ![1024, 128]⟩
abbrev S32x1024 : Shape := ⟨2, ![32, 1024]⟩
abbrev S32x512 : Shape := ⟨2, ![32, 512]⟩
abbrev S64x1024 : Shape := ⟨2, ![64, 1024]⟩
abbrev S64x5632 : Shape := ⟨2, ![64, 5632]⟩
abbrev S176x1024 : Shape := ⟨2, ![176, 1024]⟩
abbrev S1x4x512x256 : Shape := ⟨4, ![1, 4, 512, 256]⟩
abbrev S1024x512 : Shape := ⟨2, ![1024, 512]⟩
abbrev S1x4x1x512 : Shape := ⟨4, ![1, 4, 1, 512]⟩
abbrev S1024 : Shape := ⟨1, ![1024]⟩
abbrev S1024x1 : Shape := ⟨2, ![1024, 1]⟩
abbrev S1x512 : Shape := ⟨2, ![1, 512]⟩
abbrev S256x512 : Shape := ⟨2, ![256, 512]⟩
abbrev S512x256 : Shape := ⟨2, ![512, 256]⟩
abbrev S1x1x512x256 : Shape := ⟨4, ![1, 1, 512, 256]⟩
abbrev S512 : Shape := ⟨1, ![512]⟩
abbrev S1x1x1x512 : Shape := ⟨4, ![1, 1, 1, 512]⟩

abbrev nBuf : Space → Nat
  | .hbm => 59
  | .vmem => 50
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1024x4096, .bf16⟩
  | .hbm, ⟨3, _⟩ => ⟨S1x512x1024, .f32⟩
  | .hbm, ⟨4, _⟩ => ⟨S1x512x512, .f32⟩
  | .hbm, ⟨5, _⟩ => ⟨S1x512x1024, .f32⟩
  | .hbm, ⟨6, _⟩ => ⟨S1x1024x1024, .f32⟩
  | .hbm, ⟨7, _⟩ => ⟨S1x1024x5632, .f32⟩
  | .hbm, ⟨8, _⟩ => ⟨S1x2816x1024, .f32⟩
  | .hbm, ⟨9, _⟩ => ⟨S4096, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S4096x32, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S16384x1024, .f32⟩
  | .hbm, ⟨38, _⟩ => ⟨S512x1024, .f32⟩
  | .hbm, ⟨39, _⟩ => ⟨S512x512, .f32⟩
  | .hbm, ⟨40, _⟩ => ⟨S512x1024, .f32⟩
  | .hbm, ⟨41, _⟩ => ⟨S1024x1024, .f32⟩
  | .hbm, ⟨42, _⟩ => ⟨S1024x5632, .f32⟩
  | .hbm, ⟨43, _⟩ => ⟨S2816x1024, .f32⟩
  | .hbm, ⟨44, _⟩ => ⟨S4x16x512x256, .bf16⟩
  | .hbm, ⟨45, _⟩ => ⟨S4x512x4096, .f32⟩
  | .hbm, ⟨46, _⟩ => ⟨S16384x512, .bf16⟩
  | .hbm, ⟨47, _⟩ => ⟨S4x16x1x512, .f32⟩
  | .hbm, ⟨48, _⟩ => ⟨S4x512x4096, .f32⟩
  | .hbm, ⟨49, _⟩ => ⟨S4x16x512x256, .bf16⟩
  | .hbm, ⟨50, _⟩ => ⟨S16384x512, .f32⟩
  | .hbm, ⟨51, _⟩ => ⟨S16384x1024, .bf16⟩
  | .hbm, ⟨52, _⟩ => ⟨S16384x1024, .bf16⟩
  | .hbm, ⟨53, _⟩ => ⟨S512x1024, .bf16⟩
  | .hbm, ⟨54, _⟩ => ⟨S512x512, .bf16⟩
  | .hbm, ⟨55, _⟩ => ⟨S512x1024, .bf16⟩
  | .hbm, ⟨56, _⟩ => ⟨S1024x1024, .bf16⟩
  | .hbm, ⟨57, _⟩ => ⟨S1024x5632, .bf16⟩
  | .hbm, ⟨58, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S32x1024, .f32⟩
  | .local _ .vmem, ⟨9, _⟩ => ⟨S32x1024, .f32⟩
  | .local _ .vmem, ⟨10, _⟩ => ⟨S32x512, .f32⟩
  | .local _ .vmem, ⟨11, _⟩ => ⟨S32x512, .f32⟩
  | .local _ .vmem, ⟨12, _⟩ => ⟨S32x1024, .f32⟩
  | .local _ .vmem, ⟨13, _⟩ => ⟨S32x1024, .f32⟩
  | .local _ .vmem, ⟨14, _⟩ => ⟨S64x1024, .f32⟩
  | .local _ .vmem, ⟨15, _⟩ => ⟨S64x1024, .f32⟩
  | .local _ .vmem, ⟨16, _⟩ => ⟨S64x5632, .f32⟩
  | .local _ .vmem, ⟨17, _⟩ => ⟨S64x5632, .f32⟩
  | .local _ .vmem, ⟨18, _⟩ => ⟨S176x1024, .f32⟩
  | .local _ .vmem, ⟨19, _⟩ => ⟨S176x1024, .f32⟩
  | .local _ .vmem, ⟨20, _⟩ => ⟨S1x4x512x256, .bf16⟩
  | .local _ .vmem, ⟨21, _⟩ => ⟨S1x4x512x256, .bf16⟩
  | .local _ .vmem, ⟨22, _⟩ => ⟨S1x512x1024, .f32⟩
  | .local _ .vmem, ⟨23, _⟩ => ⟨S1x512x1024, .f32⟩
  | .local _ .vmem, ⟨24, _⟩ => ⟨S1024x512, .bf16⟩
  | .local _ .vmem, ⟨25, _⟩ => ⟨S1024x512, .bf16⟩
  | .local _ .vmem, ⟨26, _⟩ => ⟨S1x4x1x512, .f32⟩
  | .local _ .vmem, ⟨27, _⟩ => ⟨S1x4x1x512, .f32⟩
  | .local _ .vmem, ⟨28, _⟩ => ⟨S1x512x1024, .f32⟩
  | .local _ .vmem, ⟨29, _⟩ => ⟨S1x512x1024, .f32⟩
  | .local _ .vmem, ⟨30, _⟩ => ⟨S1x4x512x256, .bf16⟩
  | .local _ .vmem, ⟨31, _⟩ => ⟨S1x4x512x256, .bf16⟩
  | .local _ .vmem, ⟨32, _⟩ => ⟨S1024x512, .f32⟩
  | .local _ .vmem, ⟨33, _⟩ => ⟨S1024x512, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S32x1024, .bf16⟩
  | .local _ .vmem, ⟨39, _⟩ => ⟨S32x1024, .bf16⟩
  | .local _ .vmem, ⟨40, _⟩ => ⟨S32x512, .bf16⟩
  | .local _ .vmem, ⟨41, _⟩ => ⟨S32x512, .bf16⟩
  | .local _ .vmem, ⟨42, _⟩ => ⟨S32x1024, .bf16⟩
  | .local _ .vmem, ⟨43, _⟩ => ⟨S32x1024, .bf16⟩
  | .local _ .vmem, ⟨44, _⟩ => ⟨S64x1024, .bf16⟩
  | .local _ .vmem, ⟨45, _⟩ => ⟨S64x1024, .bf16⟩
  | .local _ .vmem, ⟨46, _⟩ => ⟨S64x5632, .bf16⟩
  | .local _ .vmem, ⟨47, _⟩ => ⟨S64x5632, .bf16⟩
  | .local _ .vmem, ⟨48, _⟩ => ⟨S176x1024, .bf16⟩
  | .local _ .vmem, ⟨49, _⟩ => ⟨S176x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev main_v32_4 : Ref sig .tc := ⟨.hbm, 48, rfl⟩
abbrev main_v32_5 : Ref sig .tc := ⟨.hbm, 49, rfl⟩
abbrev main_v32_6 : Ref sig .tc := ⟨.hbm, 50, rfl⟩
abbrev main_v32_7 : Ref sig .tc := ⟨.hbm, 51, rfl⟩
abbrev main_v32_8 : Ref sig .tc := ⟨.hbm, 52, rfl⟩
abbrev main_v32_9 : Ref sig .tc := ⟨.hbm, 53, rfl⟩
abbrev main_v32_10 : Ref sig .tc := ⟨.hbm, 54, rfl⟩
abbrev main_v32_11 : Ref sig .tc := ⟨.hbm, 55, rfl⟩
abbrev main_v32_12 : Ref sig .tc := ⟨.hbm, 56, rfl⟩
abbrev main_v32_13 : Ref sig .tc := ⟨.hbm, 57, rfl⟩
abbrev main_v32_14 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem24_1 : DmaSem sig := 47
abbrev cc0_sem25_0 : DmaSem sig := 48
abbrev cc0_sem25_1 : DmaSem sig := 49

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_22 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_23 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_24 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_25 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S32x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S64x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S64x5632 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S176x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== InProjRefIdeal.lean ====
abbrev S4x4096x1024 : Shape := ⟨3, ![4, 4096, 1024]⟩
abbrev S1x1024 : Shape := ⟨2, ![1, 1024]⟩
abbrev S1024x4096 : Shape := ⟨2, ![1024, 4096]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S4x4096x512 : Shape := ⟨3, ![4, 4096, 512]⟩
abbrev S4x4096x8x64 : Shape := ⟨4, ![4, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x16x256x8x64 : Shape := ⟨5, ![4, 16, 256, 8, 64]⟩
abbrev S4x16x8x64 : Shape := ⟨4, ![4, 16, 8, 64]⟩
abbrev S4x16x256x512 : Shape := ⟨4, ![4, 16, 256, 512]⟩
abbrev S4x16x512x256 : Shape := ⟨4, ![4, 16, 512, 256]⟩
abbrev S4x8x64x4096 : Shape := ⟨4, ![4, 8, 64, 4096]⟩
abbrev S4x512x4096 : Shape := ⟨3, ![4, 512, 4096]⟩
abbrev S16384x512 : Shape := ⟨2, ![16384, 512]⟩
abbrev S4x16x1x512 : Shape := ⟨4, ![4, 16, 1, 512]⟩
abbrev S16384x1024 : Shape := ⟨2, ![16384, 1024]⟩
abbrev S512x1024 : Shape := ⟨2, ![512, 1024]⟩
abbrev S512x512 : Shape := ⟨2, ![512, 512]⟩
abbrev S1024x1024 : Shape := ⟨2, ![1024, 1024]⟩
abbrev S1024x5632 : Shape := ⟨2, ![1024, 5632]⟩
abbrev S2816x1024 : Shape := ⟨2, ![2816, 1024]⟩

abbrev nBuf : Space → Nat
  | .hbm => 159
  | .vmem => 0
  | .smem => 0
  | _ => 0

abbrev hbmTy0_0 (i : Nat) : BufTy := match i % 128 with
  | 0 => ⟨S4x4096x1024, .f32⟩
  | 1 => ⟨S1x1024, .f32⟩
  | 2 => ⟨S1024x4096, .bf16⟩
  | 3 => ⟨S1x512x1024, .f32⟩
  | 4 => ⟨S1x512x512, .f32⟩
  | 5 => ⟨S1x512x1024, .f32⟩
  | 6 => ⟨S1x1024x1024, .f32⟩
  | 7 => ⟨S1x1024x5632, .f32⟩
  | 8 => ⟨S1x2816x1024, .f32⟩
  | 9 => ⟨S4096, .i32⟩
  | 10 => ⟨S1024, .f32⟩
  | 11 => ⟨S1024x4096, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x4096, .f32⟩
  | 29 => ⟨S4x4096x512, .f32⟩
  | 30 => ⟨S4x4096x512, .f32⟩
  | 31 => ⟨S4x4096x512, .f32⟩
  | 32 => ⟨S4x4096x512, .f32⟩
  | 33 => ⟨S4x4096x1024, .f32⟩
  | 34 => ⟨S4x4096x1024, .f32⟩
  | 35 => ⟨S4x4096x8x64, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S1x4096x1x32, .f32⟩
  | 54 => ⟨S4096x32, .f32⟩
  | 55 => ⟨S1x4096x1x32, .f32⟩
  | 56 => ⟨S4x4096x8x32, .f32⟩
  | 57 => ⟨S4x4096x8x32, .f32⟩
  | 58 => ⟨S4x4096x8x32, .f32⟩
  | 59 => ⟨S4x4096x8x32, .f32⟩
  | 60 => ⟨S4x4096x8x32, .f32⟩
  | 61 => ⟨S4x4096x8x32, .f32⟩
  | 62 => ⟨S4x4096x8x32, .f32⟩
  | 63 => ⟨S4x4096x8x32, .f32⟩
  | 64 => ⟨S4x4096x8x32, .f32⟩
  | 65 => ⟨S4x4096x8x32, .f32⟩
  | 66 => ⟨S4x4096x8x32, .f32⟩
  | 67 => ⟨S4x4096x8x32, .f32⟩
  | 68 => ⟨S4x4096x8x64, .f32⟩
  | 69 => ⟨S4x4096x8x64, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4096, .f32⟩
  | 81 => ⟨S4096x1, .f32⟩
  | 82 => ⟨S1x32, .f32⟩
  | 83 => ⟨S4096x32, .f32⟩
  | 84 => ⟨S4096x32, .f32⟩
  | 85 => ⟨S4096x32, .f32⟩
  | 86 => ⟨S4096x32, .f32⟩
  | 87 => ⟨S1x4096x1x32, .f32⟩
  | 88 => ⟨S4096x32, .f32⟩
  | 89 => ⟨S1x4096x1x32, .f32⟩
  | 90 => ⟨S4x4096x8x32, .f32⟩
  | 91 => ⟨S4x4096x8x32, .f32⟩
  | 92 => ⟨S4x4096x8x32, .f32⟩
  | 93 => ⟨S4x4096x8x32, .f32⟩
  | 94 => ⟨S4x4096x8x32, .f32⟩
  | 95 => ⟨S4x4096x8x32, .f32⟩
  | 96 => ⟨S4x4096x8x32, .f32⟩
  | 97 => ⟨S4x4096x8x32, .f32⟩
  | 98 => ⟨S4x4096x8x32, .f32⟩
  | 99 => ⟨S4x4096x8x32, .f32⟩
  | 100 => ⟨S4x4096x8x32, .f32⟩
  | 101 => ⟨S4x4096x8x32, .f32⟩
  | 102 => ⟨S4x4096x8x64, .f32⟩
  | 103 => ⟨S4x4096x8x64, .f32⟩
  | 104 => ⟨S4x4096x1024, .f32⟩
  | 105 => ⟨S4x4096x1024, .f32⟩
  | 106 => ⟨S_, .f32⟩
  | 107 => ⟨S4x4096x1024, .f32⟩
  | 108 => ⟨S4x4096x1024, .f32⟩
  | 109 => ⟨S_, .f32⟩
  | 110 => ⟨S4x4096x1024, .f32⟩
  | 111 => ⟨S4x4096x1024, .f32⟩
  | 112 => ⟨S4x4096x1024, .f32⟩
  | 113 => ⟨S4x4096x1024, .f32⟩
  | 114 => ⟨S_, .f32⟩
  | 115 => ⟨S4x4096x1024, .f32⟩
  | 116 => ⟨S4x4096x1024, .f32⟩
  | 117 => ⟨S_, .f32⟩
  | 118 => ⟨S4x4096x1024, .f32⟩
  | 119 => ⟨S4x4096x1024, .f32⟩
  | 120 => ⟨S4x16x256x8x64, .f32⟩
  | 121 => ⟨S_, .f32⟩
  | 122 => ⟨S4x16x8x64, .f32⟩
  | 123 => ⟨S_, .f32⟩
  | 124 => ⟨S4x16x8x64, .f32⟩
  | 125 => ⟨S4x16x8x64, .f32⟩
  | 126 => ⟨S_, .f32⟩
  | 127 => ⟨S4x4096x8x64, .f32⟩
  | _ => ⟨S4x4096x1024, .f32⟩

abbrev hbmTy0_1 (i : Nat) : BufTy := match i % 128 with
  | 0 => ⟨S4x4096x8x64, .f32⟩
  | 1 => ⟨S4x16x256x512, .f32⟩
  | 2 => ⟨S4x16x512x256, .f32⟩
  | 3 => ⟨S4x16x256x512, .f32⟩
  | 4 => ⟨S4x16x512x256, .f32⟩
  | 5 => ⟨S4x16x512x256, .bf16⟩
  | 6 => ⟨S4x8x64x4096, .f32⟩
  | 7 => ⟨S4x512x4096, .f32⟩
  | 8 => ⟨S16384x512, .f32⟩
  | 9 => ⟨S16384x512, .bf16⟩
  | 10 => ⟨S4x16x1x512, .f32⟩
  | 11 => ⟨S4x8x64x4096, .f32⟩
  | 12 => ⟨S4x512x4096, .f32⟩
  | 13 => ⟨S4x16x512x256, .bf16⟩
  | 14 => ⟨S16384x512, .f32⟩
  | 15 => ⟨S16384x1024, .f32⟩
  | 16 => ⟨S16384x1024, .bf16⟩
  | 17 => ⟨S16384x1024, .f32⟩
  | 18 => ⟨S16384x1024, .bf16⟩
  | 19 => ⟨S512x1024, .f32⟩
  | 20 => ⟨S512x1024, .bf16⟩
  | 21 => ⟨S512x512, .f32⟩
  | 22 => ⟨S512x512, .bf16⟩
  | 23 => ⟨S512x1024, .f32⟩
  | 24 => ⟨S512x1024, .bf16⟩
  | 25 => ⟨S1024x1024, .f32⟩
  | 26 => ⟨S1024x1024, .bf16⟩
  | 27 => ⟨S1024x5632, .f32⟩
  | 28 => ⟨S1024x5632, .bf16⟩
  | 29 => ⟨S2816x1024, .f32⟩
  | 30 => ⟨S2816x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_cst_9 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_v94 : Ref sig .tc := ⟨.hbm, 115, rfl⟩
abbrev main_v95 : Ref sig .tc := ⟨.hbm, 116, rfl⟩
abbrev main_cst_11 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_12 : Ref sig .tc := ⟨.hbm, 121, rfl⟩
abbrev main_v99 : Ref sig .tc := ⟨.hbm, 122, rfl⟩
abbrev main_cst_13 : Ref sig .tc := ⟨.hbm, 123, rfl⟩
abbrev main_v100 : Ref sig .tc := ⟨.hbm, 124, rfl⟩
abbrev main_v101 : Ref sig .tc := ⟨.hbm, 125, rfl⟩
abbrev main_cst_14 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩

abbrev nD : Nat := 1
abbrev τ : Topo := Topo.v7x

variable {F : FTy → Type} [FloatOps F]
-- ==== InProjS.lean ====
abbrev S32x1x1024 : Shape := ⟨3, ![32, 1, 1024]⟩
abbrev S1x1024 : Shape := ⟨2, ![1, 1024]⟩
abbrev S1x1024x4096 : Shape := ⟨3, ![1, 1024, 4096]⟩
abbrev S_ : Shape := ⟨0, ![]⟩
abbrev S1 : Shape := ⟨1, ![1]⟩
abbrev S32 : Shape := ⟨1, ![32]⟩
abbrev S1x1 : Shape := ⟨2, ![1, 1]⟩
abbrev S1x32 : Shape := ⟨2, ![1, 32]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S32x1024 : Shape := ⟨2, ![32, 1024]⟩
abbrev S1024x4096 : Shape := ⟨2, ![1024, 4096]⟩
abbrev S32x512 : Shape := ⟨2, ![32, 512]⟩
abbrev S1024x512 : Shape := ⟨2, ![1024, 512]⟩
abbrev S1x512 : Shape := ⟨2, ![1, 512]⟩
abbrev S32x1 : Shape := ⟨2, ![32, 1]⟩
abbrev S1024x1024 : Shape := ⟨2, ![1024, 1024]⟩

abbrev nBuf : Space → Nat
  | .hbm => 40
  | .vmem => 12
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4096, .f32⟩
  | .hbm, ⟨3, _⟩ => ⟨S_, .i32⟩
  | .hbm, ⟨4, _⟩ => ⟨S1, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1, .f32⟩
  | .hbm, ⟨16, _⟩ => ⟨S1x1, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x64, .f32⟩
  | .hbm, ⟨23, _⟩ => ⟨S1x1x1x64, .f32⟩
  | .hbm, ⟨24, _⟩ => ⟨S1x1x2x64, .f32⟩
  | .hbm, ⟨25, _⟩ => ⟨S1x128, .f32⟩
  | .hbm, ⟨26, _⟩ => ⟨S1x32, .f32⟩
  | .hbm, ⟨27, _⟩ => ⟨S1x64, .f32⟩
  | .hbm, ⟨28, _⟩ => ⟨S1x1x1x64, .f32⟩
  | .hbm, ⟨29, _⟩ => ⟨S1x1x2x64, .f32⟩
  | .hbm, ⟨30, _⟩ => ⟨S1x128, .f32⟩
  | .hbm, ⟨31, _⟩ => ⟨S32x1024, .f32⟩
  | .hbm, ⟨32, _⟩ => ⟨S1024x4096, .f32⟩
  | .hbm, ⟨33, _⟩ => ⟨S32x512, .f32⟩
  | .hbm, ⟨34, _⟩ => ⟨S32x512, .f32⟩
  | .hbm, ⟨35, _⟩ => ⟨S32x512, .f32⟩
  | .hbm, ⟨36, _⟩ => ⟨S32x512, .f32⟩
  | .hbm, ⟨37, _⟩ => ⟨S32x1024, .bf16⟩
  | .hbm, ⟨38, _⟩ => ⟨S32x1024, .bf16⟩
  | .hbm, ⟨39, _⟩ => ⟨S1024x4096, .bf16⟩
  | .local _ .vmem, ⟨0, _⟩ => ⟨S32x1024, .f32⟩
  | .local _ .vmem, ⟨1, _⟩ => ⟨S1x1024, .f32⟩
  | .local _ .vmem, ⟨2, _⟩ => ⟨S1024x4096, .f32⟩
  | .local _ .vmem, ⟨3, _⟩ => ⟨S1x128, .f32⟩
  | .local _ .vmem, ⟨4, _⟩ => ⟨S1x128, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x1024, .bf16⟩
  | .local _ .vmem, ⟨10, _⟩ => ⟨S32x1024, .bf16⟩
  | .local _ .vmem, ⟨11, _⟩ => ⟨S1024x4096, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v26_4 : Ref sig .tc := ⟨.hbm, 37, rfl⟩
abbrev main_v26_5 : Ref sig .tc := ⟨.hbm, 38, rfl⟩
abbrev main_v26_6 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjSRefIdeal.lean ====
abbrev S32x1x1024 : Shape := ⟨3, ![32, 1, 1024]⟩
abbrev S1x1024 : Shape := ⟨2, ![1, 1024]⟩
abbrev S1x1024x4096 : Shape := ⟨3, ![1, 1024, 4096]⟩
abbrev S1 : Shape := ⟨1, ![1]⟩
abbrev S_ : Shape := ⟨0, ![]⟩
abbrev S1024 : Shape := ⟨1, ![1024]⟩
abbrev S1024x4096 : Shape := ⟨2, ![1024, 4096]⟩
abbrev S32x1 : Shape := ⟨2, ![32, 1]⟩
abbrev S32x1x1 : Shape := ⟨3, ![32, 1, 1]⟩
abbrev S1x1x1024 : Shape := ⟨3, ![1, 1, 1024]⟩
abbrev S32x1x4096 : Shape := ⟨3, ![32, 1, 4096]⟩
abbrev S32x1x512 : Shape := ⟨3, ![32, 1, 512]⟩
abbrev S32x1x8x64 : Shape := ⟨4, ![32, 1, 8, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S32x1x8x32 : Shape := ⟨4, ![32, 1, 8, 32]⟩
abbrev S32x512 : Shape := ⟨2, ![32, 512]⟩
abbrev S32x1024 : Shape := ⟨2, ![32, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4096, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S1024, .f32⟩
  | .hbm, ⟨8, _⟩ => ⟨S1024x4096, .f32⟩
  | .hbm, ⟨9, _⟩ => ⟨S32x1x1024, .f32⟩
  | .hbm, ⟨10, _⟩ => ⟨S_, .f32⟩
  | .hbm, ⟨11, _⟩ => ⟨S32x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1, .f32⟩
  | .hbm, ⟨20, _⟩ => ⟨S32x1x1024, .f32⟩
  | .hbm, ⟨21, _⟩ => ⟨S32x1x1024, .f32⟩
  | .hbm, ⟨22, _⟩ => ⟨S1x1x1024, .f32⟩
  | .hbm, ⟨23, _⟩ => ⟨S32x1x1024, .f32⟩
  | .hbm, ⟨24, _⟩ => ⟨S32x1x1024, .f32⟩
  | .hbm, ⟨25, _⟩ => ⟨S32x1x4096, .f32⟩
  | .hbm, ⟨26, _⟩ => ⟨S32x1x512, .f32⟩
  | .hbm, ⟨27, _⟩ => ⟨S32x1x512, .f32⟩
  | .hbm, ⟨28, _⟩ => ⟨S32x1x512, .f32⟩
  | .hbm, ⟨29, _⟩ => ⟨S32x1x512, .f32⟩
  | .hbm, ⟨30, _⟩ => ⟨S32x1x1024, .f32⟩
  | .hbm, ⟨31, _⟩ => ⟨S32x1x1024, .f32⟩
  | .hbm, ⟨32, _⟩ => ⟨S32x1x8x64, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S1, .f32⟩
  | .hbm, ⟨44, _⟩ => ⟨S1x1, .f32⟩
  | .hbm, ⟨45, _⟩ => ⟨S1x32, .f32⟩
  | .hbm, ⟨46, _⟩ => ⟨S1x32, .f32⟩
  | .hbm, ⟨47, _⟩ => ⟨S1x32, .f32⟩
  | .hbm, ⟨48, _⟩ => ⟨S1x32, .f32⟩
  | .hbm, ⟨49, _⟩ => ⟨S1x1x1x32, .f32⟩
  | .hbm, ⟨50, _⟩ => ⟨S1x32, .f32⟩
  | .hbm, ⟨51, _⟩ => ⟨S1x1x1x32, .f32⟩
  | .hbm, ⟨52, _⟩ => ⟨S32x1x8x32, .f32⟩
  | .hbm, ⟨53, _⟩ => ⟨S32x1x8x32, .f32⟩
  | .hbm, ⟨54, _⟩ => ⟨S32x1x8x32, .f32⟩
  | .hbm, ⟨55, _⟩ => ⟨S32x1x8x32, .f32⟩
  | .hbm, ⟨56, _⟩ => ⟨S32x1x8x32, .f32⟩
  | .hbm, ⟨57, _⟩ => ⟨S32x1x8x32, .f32⟩
  | .hbm, ⟨58, _⟩ => ⟨S32x1x8x32, .f32⟩
  | .hbm, ⟨59, _⟩ => ⟨S32x1x8x32, .f32⟩
  | .hbm, ⟨60, _⟩ => ⟨S32x1x8x32, .f32⟩
  | .hbm, ⟨61, _⟩ => ⟨S32x1x8x32, .f32⟩
  | .hbm, ⟨62, _⟩ => ⟨S32x1x8x32, .f32⟩
  | .hbm, ⟨63, _⟩ => ⟨S32x1x8x32, .f32⟩
  | .hbm, ⟨64, _⟩ => ⟨S32x1x8x64, .f32⟩
  | .hbm, ⟨65, _⟩ => ⟨S32x1x8x64, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S1, .f32⟩
  | .hbm, ⟨77, _⟩ => ⟨S1x1, .f32⟩
  | .hbm, ⟨78, _⟩ => ⟨S1x32, .f32⟩
  | .hbm, ⟨79, _⟩ => ⟨S1x32, .f32⟩
  | .hbm, ⟨80, _⟩ => ⟨S1x32, .f32⟩
  | .hbm, ⟨81, _⟩ => ⟨S1x32, .f32⟩
  | .hbm, ⟨82, _⟩ => ⟨S1x1x1x32, .f32⟩
  | .hbm, ⟨83, _⟩ => ⟨S1x32, .f32⟩
  | .hbm, ⟨84, _⟩ => ⟨S1x1x1x32, .f32⟩
  | .hbm, ⟨85, _⟩ => ⟨S32x1x8x32, .f32⟩
  | .hbm, ⟨86, _⟩ => ⟨S32x1x8x32, .f32⟩
  | .hbm, ⟨87, _⟩ => ⟨S32x1x8x32, .f32⟩
  | .hbm, ⟨88, _⟩ => ⟨S32x1x8x32, .f32⟩
  | .hbm, ⟨89, _⟩ => ⟨S32x1x8x32, .f32⟩
  | .hbm, ⟨90, _⟩ => ⟨S32x1x8x32, .f32⟩
  | .hbm, ⟨91, _⟩ => ⟨S32x1x8x32, .f32⟩
  | .hbm, ⟨92, _⟩ => ⟨S32x1x8x32, .f32⟩
  | .hbm, ⟨93, _⟩ => ⟨S32x1x8x32, .f32⟩
  | .hbm, ⟨94, _⟩ => ⟨S32x1x8x32, .f32⟩
  | .hbm, ⟨95, _⟩ => ⟨S32x1x8x32, .f32⟩
  | .hbm, ⟨96, _⟩ => ⟨S32x1x8x32, .f32⟩
  | .hbm, ⟨97, _⟩ => ⟨S32x1x8x64, .f32⟩
  | .hbm, ⟨98, _⟩ => ⟨S32x1x8x64, .f32⟩
  | .hbm, ⟨99, _⟩ => ⟨S32x1x1024, .f32⟩
  | .hbm, ⟨100, _⟩ => ⟨S32x1x1024, .f32⟩
  | .hbm, ⟨101, _⟩ => ⟨S_, .f32⟩
  | .hbm, ⟨102, _⟩ => ⟨S32x1x1024, .f32⟩
  | .hbm, ⟨103, _⟩ => ⟨S32x1x1024, .f32⟩
  | .hbm, ⟨104, _⟩ => ⟨S_, .f32⟩
  | .hbm, ⟨105, _⟩ => ⟨S32x1x1024, .f32⟩
  | .hbm, ⟨106, _⟩ => ⟨S32x1x1024, .f32⟩
  | .hbm, ⟨107, _⟩ => ⟨S32x1x1024, .f32⟩
  | .hbm, ⟨108, _⟩ => ⟨S32x1x1024, .f32⟩
  | .hbm, ⟨109, _⟩ => ⟨S_, .f32⟩
  | .hbm, ⟨110, _⟩ => ⟨S32x1x1024, .f32⟩
  | .hbm, ⟨111, _⟩ => ⟨S32x1x1024, .f32⟩
  | .hbm, ⟨112, _⟩ => ⟨S_, .f32⟩
  | .hbm, ⟨113, _⟩ => ⟨S32x1x1024, .f32⟩
  | .hbm, ⟨114, _⟩ => ⟨S32x1x1024, .f32⟩
  | .hbm, ⟨115, _⟩ => ⟨S32x512, .f32⟩
  | .hbm, ⟨116, _⟩ => ⟨S_, .f32⟩
  | .hbm, ⟨117, _⟩ => ⟨S32x512, .f32⟩
  | .hbm, ⟨118, _⟩ => ⟨S32x512, .f32⟩
  | .hbm, ⟨119, _⟩ => ⟨S32x512, .f32⟩
  | .hbm, ⟨120, _⟩ => ⟨S32x512, .f32⟩
  | .hbm, ⟨121, _⟩ => ⟨S32x512, .f32⟩
  | .hbm, ⟨122, _⟩ => ⟨S32x1024, .f32⟩
  | .hbm, ⟨123, _⟩ => ⟨S32x1024, .bf16⟩
  | .hbm, ⟨124, _⟩ => ⟨S32x1024, .f32⟩
  | .hbm, ⟨125, _⟩ => ⟨S32x1024, .bf16⟩
  | .hbm, ⟨126, _⟩ => ⟨S1024x4096, .f32⟩
  | .hbm, ⟨127, _⟩ => ⟨S1024x4096, .bf16⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_8 : Ref sig .tc := ⟨.hbm, 101, rfl⟩
abbrev main_v88 : Ref sig .tc := ⟨.hbm, 102, rfl⟩
abbrev main_v89 : Ref sig .tc := ⟨.hbm, 103, rfl⟩
abbrev main_cst_9 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_10 : Ref sig .tc := ⟨.hbm, 109, rfl⟩
abbrev main_v94 : Ref sig .tc := ⟨.hbm, 110, rfl⟩
abbrev main_v95 : Ref sig .tc := ⟨.hbm, 111, rfl⟩
abbrev main_cst_11 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_12 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩

abbrev nD : Nat := 1
abbrev τ : Topo := Topo.v7x

variable {F : FTy → Type} [FloatOps F]
-- ==== PostS.lean ====
abbrev S32x1024 : Shape := ⟨2, ![32, 1024]⟩
abbrev S32x512 : Shape := ⟨2, ![32, 512]⟩
abbrev S512x1024 : Shape := ⟨2, ![512, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S32 : Shape := ⟨1, ![32]⟩
abbrev S32x1 : Shape := ⟨2, ![32, 1]⟩
abbrev S1024x256 : Shape := ⟨2, ![1024, 256]⟩
abbrev S32x256 : Shape := ⟨2, ![32, 256]⟩
abbrev S256x1024 : Shape := ⟨2, ![256, 1024]⟩

abbrev nBuf : Space → Nat
  | .hbm => 16
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S32x1024, .bf16⟩
  | .hbm, ⟨4, _⟩ => ⟨S32x1024, .bf16⟩
  | .hbm, ⟨5, _⟩ => ⟨S512x1024, .bf16⟩
  | .hbm, ⟨6, _⟩ => ⟨S512x512, .bf16⟩
  | .hbm, ⟨7, _⟩ => ⟨S1x512, .f32⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S32x1024, .f32⟩
  | .local _ .vmem, ⟨0, _⟩ => ⟨S32x1024, .f32⟩
  | .local _ .vmem, ⟨1, _⟩ => ⟨S32x512, .f32⟩
  | .local _ .vmem, ⟨2, _⟩ => ⟨S32x512, .f32⟩
  | .local _ .vmem, ⟨3, _⟩ => ⟨S32x1024, .bf16⟩
  | .local _ .vmem, ⟨4, _⟩ => ⟨S32x1024, .bf16⟩
  | .local _ .vmem, ⟨5, _⟩ => ⟨S512x1024, .bf16⟩
  | .local _ .vmem, ⟨6, _⟩ => ⟨S512x512, .bf16⟩
  | .local _ .vmem, ⟨7, _⟩ => ⟨S1x512, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== PostSRefIdeal.lean ====
abbrev S32x1024 : Shape := ⟨2, ![32, 1024]⟩
abbrev S32x512 : Shape := ⟨2, ![32, 512]⟩
abbrev S512x1024 : Shape := ⟨2, ![512, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S512 : Shape := ⟨1, ![512]⟩
abbrev S32 : Shape := ⟨1, ![32]⟩
abbrev S32x1 : Shape := ⟨2, ![32, 1]⟩
abbrev S32x5632 : Shape := ⟨2, ![32, 5632]⟩
abbrev S32x2816 : Shape := ⟨2, ![32, 2816]⟩

abbrev nBuf : Space → Nat
  | .hbm => 108
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S32x1024, .bf16⟩
  | .hbm, ⟨4, _⟩ => ⟨S32x1024, .bf16⟩
  | .hbm, ⟨5, _⟩ => ⟨S512x1024, .bf16⟩
  | .hbm, ⟨6, _⟩ => ⟨S512x512, .bf16⟩
  | .hbm, ⟨7, _⟩ => ⟨S1x512, .f32⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S512x1024, .f32⟩
  | .hbm, ⟨15, _⟩ => ⟨S32x1024, .f32⟩
  | .hbm, ⟨16, _⟩ => ⟨S32x512, .f32⟩
  | .hbm, ⟨17, _⟩ => ⟨S32x512, .f32⟩
  | .hbm, ⟨18, _⟩ => ⟨S_, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S_, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S_, .f32⟩
  | .hbm, ⟨30, _⟩ => ⟨S32x512, .f32⟩
  | .hbm, ⟨31, _⟩ => ⟨S32x512, .f32⟩
  | .hbm, ⟨32, _⟩ => ⟨S32x512, .f32⟩
  | .hbm, ⟨33, _⟩ => ⟨S512x512, .f32⟩
  | .hbm, ⟨34, _⟩ => ⟨S32x512, .f32⟩
  | .hbm, ⟨35, _⟩ => ⟨S512, .f32⟩
  | .hbm, ⟨36, _⟩ => ⟨S1x512, .f32⟩
  | .hbm, ⟨37, _⟩ => ⟨S32x512, .f32⟩
  | .hbm, ⟨38, _⟩ => ⟨S32x512, .f32⟩
  | .hbm, ⟨39, _⟩ => ⟨S32x512, .f32⟩
  | .hbm, ⟨40, _⟩ => ⟨S32x512, .f32⟩
  | .hbm, ⟨41, _⟩ => ⟨S_, .f32⟩
  | .hbm, ⟨42, _⟩ => ⟨S32x512, .f32⟩
  | .hbm, ⟨43, _⟩ => ⟨S32x512, .f32⟩
  | .hbm, ⟨44, _⟩ => ⟨S_, .f32⟩
  | .hbm, ⟨45, _⟩ => ⟨S32x512, .f32⟩
  | .hbm, ⟨46, _⟩ => ⟨S32x512, .f32⟩
  | .hbm, ⟨47, _⟩ => ⟨S32x512, .f32⟩
  | .hbm, ⟨48, _⟩ => ⟨S512x1024, .f32⟩
  | .hbm, ⟨49, _⟩ => ⟨S32x1024, .f32⟩
  | .hbm, ⟨50, _⟩ => ⟨S32x1024, .f32⟩
  | .hbm, ⟨51, _⟩ => ⟨S32x1024, .f32⟩
  | .hbm, ⟨52, _⟩ => ⟨S32x1024, .f32⟩
  | .hbm, ⟨53, _⟩ => ⟨S32x1024, .f32⟩
  | .hbm, ⟨54, _⟩ => ⟨S32x1024, .f32⟩
  | .hbm, ⟨55, _⟩ => ⟨S1024x1024, .f32⟩
  | .hbm, ⟨56, _⟩ => ⟨S32x1024, .f32⟩
  | .hbm, ⟨57, _⟩ => ⟨S32x1024, .f32⟩
  | .hbm, ⟨58, _⟩ => ⟨S1024, .f32⟩
  | .hbm, ⟨59, _⟩ => ⟨S32x1024, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S_, .f32⟩
  | .hbm, ⟨64, _⟩ => ⟨S32x1, .f32⟩
  | .hbm, ⟨65, _⟩ => ⟨S32x1, .f32⟩
  | .hbm, ⟨66, _⟩ => ⟨S_, .f32⟩
  | .hbm, ⟨67, _⟩ => ⟨S32x1, .f32⟩
  | .hbm, ⟨68, _⟩ => ⟨S32x1, .f32⟩
  | .hbm, ⟨69, _⟩ => ⟨S32x1, .f32⟩
  | .hbm, ⟨70, _⟩ => ⟨S32x1024, .f32⟩
  | .hbm, ⟨71, _⟩ => ⟨S32x1024, .f32⟩
  | .hbm, ⟨72, _⟩ => ⟨S1x1024, .f32⟩
  | .hbm, ⟨73, _⟩ => ⟨S32x1024, .f32⟩
  | .hbm, ⟨74, _⟩ => ⟨S32x1024, .f32⟩
  | .hbm, ⟨75, _⟩ => ⟨S1024x5632, .f32⟩
  | .hbm, ⟨76, _⟩ => ⟨S32x5632, .f32⟩
  | .hbm, ⟨77, _⟩ => ⟨S32x2816, .f32⟩
  | .hbm, ⟨78, _⟩ => ⟨S32x2816, .f32⟩
  | .hbm, ⟨79, _⟩ => ⟨S32x2816, .f32⟩
  | .hbm, ⟨80, _⟩ => ⟨S32x2816, .f32⟩
  | .hbm, ⟨81, _⟩ => ⟨S_, .f32⟩
  | .hbm, ⟨82, _⟩ => ⟨S32x2816, .f32⟩
  | .hbm, ⟨83, _⟩ => ⟨S32x2816, .f32⟩
  | .hbm, ⟨84, _⟩ => ⟨S_, .f32⟩
  | .hbm, ⟨85, _⟩ => ⟨S32x2816, .f32⟩
  | .hbm, ⟨86, _⟩ => ⟨S32x2816, .f32⟩
  | .hbm, ⟨87, _⟩ => ⟨S32x2816, .f32⟩
  | .hbm, ⟨88, _⟩ => ⟨S32x2816, .f32⟩
  | .hbm, ⟨89, _⟩ => ⟨S2816x1024, .f32⟩
  | .hbm, ⟨90, _⟩ => ⟨S32x1024, .f32⟩
  | .hbm, ⟨91, _⟩ => ⟨S32x1024, .f32⟩
  | .hbm, ⟨92, _⟩ => ⟨S32x1024, .f32⟩
  | .hbm, ⟨93, _⟩ => ⟨S_, .f32⟩
  | .hbm, ⟨94, _⟩ => ⟨S32, .f32⟩
  | .hbm, ⟨95, _⟩ => ⟨S32x1, .f32⟩
  | .hbm, ⟨96, _⟩ => ⟨S_, .f32⟩
  | .hbm, ⟨97, _⟩ => ⟨S32x1, .f32⟩
  | .hbm, ⟨98, _⟩ => ⟨S32x1, .f32⟩
  | .hbm, ⟨99, _⟩ => ⟨S_, .f32⟩
  | .hbm, ⟨100, _⟩ => ⟨S32x1, .f32⟩
  | .hbm, ⟨101, _⟩ => ⟨S32x1, .f32⟩
  | .hbm, ⟨102, _⟩ => ⟨S32x1, .f32⟩
  | .hbm, ⟨103, _⟩ => ⟨S32x1024, .f32⟩
  | .hbm, ⟨104, _⟩ => ⟨S32x1024, .f32⟩
  | .hbm, ⟨105, _⟩ => ⟨S1x1024, .f32⟩
  | .hbm, ⟨106, _⟩ => ⟨S32x1024, .f32⟩
  | .hbm, ⟨107, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]
-- ==== Proof.Rows.lean ====
/- The layer's row formulas over the extended reals: what one token's row becomes, written once and used for
   the kernels' blocks and for the references' arrays alike. -/
module

public import Idealize.ShloMosaic.Lib.Pointwise
public import Idealize.ShloMosaic.Lib.Pipeline.ValueKit

@[expose] public section

noncomputable section

open Idealize.ShloMosaic

namespace Rows

/-- The float literals of the layer, as the printed programs spell them. -/
abbrev width : EReal := Ideal.ofBits .f32 0x44800000#32
abbrev eps : EReal := Ideal.ofBits .f32 0x358637BD#32

/-- The tanh form of the Gaussian error linear unit. -/
def gelu (v : EReal) : EReal :=
  v * (Ideal.ofBits .f32 0x3F000000#32
    * (1 + Ideal.tanh (Ideal.ofBits .f32 0x3F4C422A#32 * (v + Ideal.ofBits .f32 0x3D372713#32 * (v * (v * v))))))

/-- A gate with itself: `v` times its logistic. -/
def silu (v : EReal) : EReal := v * Ideal.logistic v

/-- A row scaled to unit mean square, times the learned scale. -/
def rms (x g : Fin 1024 → EReal) (j : Fin 1024) : EReal :=
  x j * Ideal.rsqrt (Ideal.div (∑ k, x k * x k) width + eps) * g j

/-- The recurrence's output row through its gelu and its gated linear unit. -/
def glu (y : Fin 512 → EReal) (w : Fin 512 → Fin 512 → EReal) (b : Fin 512 → EReal) (j : Fin 512) : EReal :=
  gelu (y j) * Ideal.logistic ((∑ k, gelu (y k) * w k j) + b j)

/-- The two branches projected to the model width and added under their gates. -/
def merged (o : Fin 512 → EReal) (z : Fin 512 → EReal) (ga gs : Fin 1024 → EReal)
    (wap wsp : Fin 512 → Fin 1024 → EReal) (j : Fin 1024) : EReal :=
  ga j * (∑ k, o k * wap k j) + gs j * (∑ k, z k * wsp k j)

/-- The residual row after the mixer. -/
def mixed (x mg : Fin 1024 → EReal) (w : Fin 1024 → Fin 1024 → EReal) (j : Fin 1024) : EReal :=
  x j + ∑ k, mg k * w k j

/-- Hidden unit `n` of the gated feed-forward network on the normalised row `h`: the first half of the columns is the
    gate, the second half what is gated. -/
def hidden (h : Fin 1024 → EReal) (w : Fin 1024 → Fin 5632 → EReal) (n : Fin 2816) : EReal :=
  silu (∑ k, h k * w k ⟨n.val, by omega⟩) * ∑ k, h k * w k ⟨2816 + n.val, by omega⟩

/-- The residual row after the feed-forward network. -/
def fed (x h : Fin 1024 → EReal) (wi : Fin 1024 → Fin 5632 → EReal) (wo : Fin 2816 → Fin 1024 → EReal)
    (j : Fin 1024) : EReal :=
  x j + ∑ n, hidden h wi n * wo n j

/-- What 256 hidden units add to the output column `j`, from their own columns of the two input weights. -/
def piece (h : Fin 1024 → EReal) (wg wu : Fin 1024 → Fin 256 → EReal) (wo : Fin 256 → Fin 1024 → EReal)
    (j : Fin 1024) : EReal :=
  ∑ t, silu (∑ k, h k * wg k t) * (∑ k, h k * wu k t) * wo t j

/-- What the 256 hidden units from `lo` on add to the output column `j`. -/
def part (h : Fin 1024 → EReal) (wi : Fin 1024 → Fin 5632 → EReal) (wo : Fin 2816 → Fin 1024 → EReal)
    (j : Fin 1024) (i : Fin 11) : EReal :=
  ∑ t : Fin 256, hidden h wi ⟨i.val * 256 + t.val, by omega⟩ * wo ⟨i.val * 256 + t.val, by omega⟩ j

/-- The columns and rows of the weights a chunk loads are the network's own at the chunk's place. -/
theorem piece_eq_part (h : Fin 1024 → EReal) (wi : Fin 1024 → Fin 5632 → EReal) (wo : Fin 2816 → Fin 1024 → EReal)
    (j : Fin 1024) (i : Fin 11) (wg wu : Fin 1024 → Fin 256 → EReal) (wc : Fin 256 → Fin 1024 → EReal)
    (hg : ∀ k t, wg k t = wi k ⟨i.val * 256 + t.val, by omega⟩)
    (hu : ∀ k t, wu k t = wi k ⟨2816 + (i.val * 256 + t.val), by omega⟩)
    (hc : ∀ t l, wc t l = wo ⟨i.val * 256 + t.val, by omega⟩ l) :
    piece h wg wu wc j = part h wi wo j i := by
  simp only [piece, part, hidden, hg, hu, hc]

/-- The network added 256 hidden units at a time is the network. -/
theorem fed_eq_parts (x h : Fin 1024 → EReal) (wi : Fin 1024 → Fin 5632 → EReal) (wo : Fin 2816 → Fin 1024 → EReal)
    (j : Fin 1024) :
    fed x h wi wo j = x j + part h wi wo j 0 + part h wi wo j 1 + part h wi wo j 2 + part h wi wo j 3
      + part h wi wo j 4 + part h wi wo j 5 + part h wi wo j 6 + part h wi wo j 7 + part h wi wo j 8
      + part h wi wo j 9 + part h wi wo j 10 := by
  have e : ∑ n, hidden h wi n * wo n j = ∑ i, part h wi wo j i :=
    Fin.sum_univ_tiles 11 256 rfl fun n => hidden h wi n * wo n j
  rw [fed, e]
  simp only [Fin.sum_univ_succ, Fin.sum_univ_zero, add_zero, add_assoc]
  rfl

/-- A token's whole path after the mixers' cores: gates, residual, feed-forward network, last norm. -/
def post (x : Fin 1024 → EReal) (o y : Fin 512 → EReal) (ga gs : Fin 1024 → EReal) (wap : Fin 512 → Fin 1024 → EReal)
    (wglu : Fin 512 → Fin 512 → EReal) (bglu : Fin 512 → EReal) (wsp : Fin 512 → Fin 1024 → EReal)
    (wout : Fin 1024 → Fin 1024 → EReal) (nffn : Fin 1024 → EReal) (wi : Fin 1024 → Fin 5632 → EReal)
    (wo : Fin 2816 → Fin 1024 → EReal) (nfin : Fin 1024 → EReal) : Fin 1024 → EReal :=
  let x1 := mixed x (merged o (glu y wglu bglu) ga gs wap wsp) wout
  rms (fed x1 (rms x1 nffn) wi wo) nfin

end Rows

end
-- ==== Proof.PostPay.lean ====
/- The `post` kernel's payloads read at one entry of a block: each is a row formula of the block's own row. -/
module

public import proofs.«01_k».proof.Proof.Gen.PostIdeal.Skeleton
public import proofs.«01_k».proof.Proof.Rows

@[expose] public section

set_option maxRecDepth 16384

noncomputable section

open Idealize.ShloMosaic Idealize.ShloMosaic.TcCoe Idealize.SL.Sem

namespace Cert.PostIdeal.Pay

open Cert.PostIdeal Cert.PostIdeal.Gen

theorem merged_at (y : FVec Ideal S512x512 .f32) (wglu : FVec Ideal S512x512 .bf16) (b : FVec Ideal S1x512 .f32)
    (wsp : FVec Ideal S512x1024 .bf16) (o : FVec Ideal S512x512 .bf16) (wap : FVec Ideal S512x1024 .bf16)
    (ga gs : FVec Ideal S512x1024 .bf16) (r : Fin 512) (j : Fin 1024) :
    k0_pay2 (F := Ideal) y wglu b wsp o wap ga gs (ix2 r j)
      = Rows.merged (fun k => o (ix2 r k)) (Rows.glu (fun k => y (ix2 r k)) (fun k l => wglu (ix2 k l)) fun l => b (ix2 0 l))
          (fun l => ga (ix2 r l)) (fun l => gs (ix2 r l)) (fun k l => wap (ix2 k l)) (fun k l => wsp (ix2 k l)) j := by
  pointwise [k0_pay2, Rows.merged, Rows.glu, Rows.gelu]

theorem mixed_at (mg : FVec Ideal S512x1024 .f32) (x : FVec Ideal S512x1024 .f32) (w : FVec Ideal S1024x1024 .bf16)
    (r : Fin 512) (j : Fin 1024) :
    k0_pay3 (F := Ideal) mg x w (ix2 r j)
      = Rows.mixed (fun l => x (ix2 r l)) (fun l => mg (ix2 r l)) (fun k l => w (ix2 k l)) j := by
  pointwise [k0_pay3, Rows.mixed]

theorem normed_at (mg : FVec Ideal S512x1024 .f32) (x : FVec Ideal S512x1024 .f32) (w : FVec Ideal S1024x1024 .bf16)
    (g : FVec Ideal S1x1024 .f32) (r : Fin 512) (j : Fin 1024) :
    k0_pay4 (F := Ideal) mg x w g (ix2 r j)
      = Rows.rms (fun l => k0_pay3 (F := Ideal) mg x w (ix2 r l)) (fun l => g (ix2 0 l)) j := by
  pointwise [k0_pay4, Rows.rms]

/-- The first 256 hidden units, added to the residual row. -/
theorem first_at (mg : FVec Ideal S512x1024 .f32) (x : FVec Ideal S512x1024 .f32) (w : FVec Ideal S1024x1024 .bf16)
    (g : FVec Ideal S1x1024 .f32) (wg wu : FVec Ideal S1024x256 .bf16) (wo : FVec Ideal S256x1024 .bf16) (r : Fin 512)
    (j : Fin 1024) :
    k0_pay5 (F := Ideal) mg x w g wg wu wo (ix2 r j)
      = k0_pay3 (F := Ideal) mg x w (ix2 r j) + Rows.piece (fun l => k0_pay4 (F := Ideal) mg x w g (ix2 r l))
          (fun k t => wg (ix2 k t)) (fun k t => wu (ix2 k t)) (fun t l => wo (ix2 t l)) j := by
  pointwise [k0_pay5, Rows.piece, Rows.silu]

/-- A chunk whose gate and value products were formed one part earlier. -/
theorem carried (h : FVec Ideal S512x1024 .bf16) (wg wu : FVec Ideal S1024x256 .bf16) (wo : FVec Ideal S256x1024 .bf16)
    (r : Fin 512) (j : Fin 1024) :
    ∑ t, k0_pay10 (F := Ideal) h wg (ix2 r t) * k0_pay9 (F := Ideal) h wu (ix2 r t) * wo (ix2 t j)
      = Rows.piece (fun l => h (ix2 r l)) (fun k t => wg (ix2 k t)) (fun k t => wu (ix2 k t)) (fun t l => wo (ix2 t l)) j := by
  pointwise [k0_pay9, k0_pay10, Rows.piece, Rows.silu]

theorem three_at (h : FVec Ideal S512x1024 .bf16) (acc : FVec Ideal S512x1024 .f32) (u g : FVec Ideal S512x256 .f32)
    (wo : FVec Ideal S256x1024 .bf16) (wg1 wu1 : FVec Ideal S1024x256 .bf16) (wo1 : FVec Ideal S256x1024 .bf16)
    (wg2 wu2 : FVec Ideal S1024x256 .bf16) (wo2 : FVec Ideal S256x1024 .bf16) (r : Fin 512) (j : Fin 1024) :
    k0_pay8 (F := Ideal) h acc u g wo wg1 wu1 wo1 wg2 wu2 wo2 (ix2 r j)
      = acc (ix2 r j) + ∑ t, g (ix2 r t) * u (ix2 r t) * wo (ix2 t j)
        + Rows.piece (fun l => h (ix2 r l)) (fun k t => wg1 (ix2 k t)) (fun k t => wu1 (ix2 k t)) (fun t l => wo1 (ix2 t l)) j
        + Rows.piece (fun l => h (ix2 r l)) (fun k t => wg2 (ix2 k t)) (fun k t => wu2 (ix2 k t)) (fun t l => wo2 (ix2 t l)) j := by
  pointwise [k0_pay8, Rows.piece, Rows.silu]

theorem last_at (acc : FVec Ideal S512x1024 .f32) (u g : FVec Ideal S512x256 .f32)
    (wo : FVec Ideal S256x1024 .bf16) (nf : FVec Ideal S1x1024 .f32) (r : Fin 512) (j : Fin 1024) :
    k0_pay1 (F := Ideal) acc u g wo nf (ix2 r j)
      = Rows.rms (fun l => acc (ix2 r l) + ∑ t, g (ix2 r t) * u (ix2 r t) * wo (ix2 t l)) (fun l => nf (ix2 0 l)) j := by
  pointwise [k0_pay1, Rows.rms]
-- ==== Proof.PostOut.lean ====
/- What the `post` body leaves in its output block, entry by entry. -/
module

public import proofs.«01_k».proof.Proof.Gen.PostIdeal.Frame
public import proofs.«01_k».proof.Proof.PostPay

@[expose] public section

set_option maxRecDepth 16384

noncomputable section

open Idealize.ShloMosaic Idealize.ShloMosaic.TcCoe Idealize.SL.Sem

namespace Cert.PostIdeal.Pay

open Cert.PostIdeal Cert.PostIdeal.Gen

/-- The later parts' payloads are the first chunked part's, under other names. -/
theorem eq11 : @k0_pay11 = @k0_pay8 := rfl
theorem eq14 : @k0_pay14 = @k0_pay8 := rfl
theorem eq12 : @k0_pay12 = @k0_pay9 := rfl
theorem eq13 : @k0_pay13 = @k0_pay10 := rfl
theorem eq15 : @k0_pay15 = @k0_pay9 := rfl
theorem eq16 : @k0_pay16 = @k0_pay10 := rfl

/-- The products of the chunk the first part hands on are those of the later parts, of the normalised rows. -/
theorem eq6 (mg x : FVec Ideal S512x1024 .f32) (w : FVec Ideal S1024x1024 .bf16) (g : FVec Ideal S1x1024 .f32)
    (v : FVec Ideal S1024x256 .bf16) : k0_pay6 (F := Ideal) mg x w g v = k0_pay9 (F := Ideal) (k0_pay4 (F := Ideal) mg x w g) v := rfl
theorem eq7 (mg x : FVec Ideal S512x1024 .f32) (w : FVec Ideal S1024x1024 .bf16) (g : FVec Ideal S1x1024 .f32)
    (v : FVec Ideal S1024x256 .bf16) : k0_pay7 (F := Ideal) mg x w g v = k0_pay10 (F := Ideal) (k0_pay4 (F := Ideal) mg x w g) v := rfl

/-- Every entry of the output block is the row formula of its row. -/
theorem out_at (x0 : FVec Ideal S512x1024 .f32) (x1 : FVec Ideal S512x512 .bf16) (x2 : FVec Ideal S512x512 .f32)
    (x3 x4 : FVec Ideal S512x1024 .bf16) (x5 : FVec Ideal S512x1024 .bf16) (x6 : FVec Ideal S512x512 .bf16)
    (x7 : FVec Ideal S1x512 .f32) (x8 : FVec Ideal S512x1024 .bf16) (x9 : FVec Ideal S1024x1024 .bf16)
    (x10 : FVec Ideal S1x1024 .f32) (x11 : FVec Ideal S1024x5632 .bf16) (x12 : FVec Ideal S2816x1024 .bf16)
    (x13 : FVec Ideal S1x1024 .f32) (r : Fin 512) (j : Fin 1024) :
    out0_14 (F := Ideal) x0 x1 x2 x3 x4 x5 x6 x7 x8 x9 x10 x11 x12 x13 (ix2 r j)
      = Rows.post (fun l => x0 (ix2 r l)) (fun l => x1 (ix2 r l)) (fun l => x2 (ix2 r l)) (fun l => x3 (ix2 r l))
          (fun l => x4 (ix2 r l)) (fun k l => x5 (ix2 k l)) (fun k l => x6 (ix2 k l)) (fun l => x7 (ix2 0 l))
          (fun k l => x8 (ix2 k l)) (fun k l => x9 (ix2 k l)) (fun l => x10 (ix2 0 l)) (fun k l => x11 (ix2 k l))
          (fun k l => x12 (ix2 k l)) (fun l => x13 (ix2 0 l)) j := by
  unfold_out out0_14
  frame_out
  simp only [eq11, eq14, eq12, eq13, eq15, eq16, eq6, eq7, last_at, three_at, first_at, carried]
  rw [Rows.post]
  pointwise [normed_at, mixed_at, merged_at]
  refine congrArg (fun f => Rows.rms f _ j) (funext fun l => ?_)
  rw [Rows.fed_eq_parts]
  iterate 11 refine congrArg₂ (· + ·) ?_ (Rows.piece_eq_part _ _ _ _ _ _ _ _ ?_ ?_ ?_)
  · rfl
  all_goals
    intro a b
    blk_ext

end Cert.PostIdeal.Pay
-- ==== Proof.PostRef.lean ====
/- The reference of the `post` call: its run leaves, in every row of the result, the row formulas of that row. The host's
   term is cut at its own intermediate arrays, each read at an entry by the row formula it is. -/
module

public import proofs.«01_k».proof.Proof.Gen.PostRefIdeal
public import Idealize.ShloMosaic.Lib.Claim
public import proofs.«01_k».proof.Proof.Rows

@[expose] public section

set_option maxRecDepth 16384

noncomputable section

open Idealize.ShloMosaic Idealize.ShloMosaic.TcCoe Idealize.SL.Sem

namespace Cert.PostRefIdeal.Rows

open Cert.PostRefIdeal Cert.PostRefIdeal.Gen

/-! ## The host's intermediate arrays -/

/-- `gelu(y)`. -/
def GELU (y : FVec Ideal S16384x512 .f32) : FVec Ideal S16384x512 .f32 :=
  mulf y (mulf (broadcastInDim S16384x512 ![] bcast_S_S16384x512 (constant S_ .f32 0x3F000000#32))
    (addf (broadcastInDim S16384x512 ![] bcast_S_S16384x512 (constant S_ .f32 0x3F800000#32))
      (Host.tanh (mulf (broadcastInDim S16384x512 ![] bcast_S_S16384x512 (constant S_ .f32 0x3F4C422A#32))
        (addf y (mulf (broadcastInDim S16384x512 ![] bcast_S_S16384x512 (constant S_ .f32 0x3D372713#32))
          (mulf (mulf y y) y)))))))

/-- The gated linear unit on `g = gelu(y)`. -/
def GLU (g : FVec Ideal S16384x512 .f32) (w : FVec Ideal S512x512 .bf16) (b : FVec Ideal S1x512 .f32) :
    FVec Ideal S16384x512 .f32 :=
  mulf g (Host.divf (broadcastInDim S16384x512 ![] bcast_S_S16384x512 (constant S_ .f32 0x3F800000#32))
    (addf (broadcastInDim S16384x512 ![] bcast_S_S16384x512 (constant S_ .f32 0x3F800000#32))
      (Host.exp (Host.negf (addf
        (Host.dotGeneral dot_S16384x512_S512x512_S16384x512_1_0_0_1_n_n none g (extf .f32 w bitsLt_bf16_f32))
        (broadcastInDim S16384x512 ![0, 1] bcast_S1x512_S16384x512_0_1
          (broadcastInDim S1x512 ![1] bcast_S512_S1x512_1 (shapeCast _ b shapeCasts_S1x512_S512))))))))

/-- The residual after the mixers, from the gated recurrence rows `z`. -/
def X1 (x : FVec Ideal S16384x1024 .f32) (o : FVec Ideal S16384x512 .bf16) (z : FVec Ideal S16384x512 .f32)
    (ga gs : FVec Ideal S16384x1024 .bf16) (wap wsp : FVec Ideal S512x1024 .bf16) (wout : FVec Ideal S1024x1024 .bf16) :
    FVec Ideal S16384x1024 .f32 :=
  addf x (Host.dotGeneral dot_S16384x1024_S1024x1024_S16384x1024_1_0_0_1_n_n none
    (addf (mulf (extf .f32 ga bitsLt_bf16_f32) (Host.dotGeneral dot_S16384x512_S512x1024_S16384x1024_1_0_0_1_n_n none
        (extf .f32 o bitsLt_bf16_f32) (extf .f32 wap bitsLt_bf16_f32)))
      (mulf (extf .f32 gs bitsLt_bf16_f32) (Host.dotGeneral dot_S16384x512_S512x1024_S16384x1024_1_0_0_1_n_n none
        z (extf .f32 wsp bitsLt_bf16_f32))))
    (extf .f32 wout bitsLt_bf16_f32))

/-- The norm of the rows of `x` under the scale `g`. -/
def RMS (x : FVec Ideal S16384x1024 .f32) (g : FVec Ideal S1024 .f32) : FVec Ideal S16384x1024 .f32 :=
  mulf (mulf x (broadcastInDim S16384x1024 ![0, 1] bcast_S16384x1_S16384x1024_0_1
      (Host.rsqrt (addf (Host.divf
        (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The hidden units from the two halves of the input product. -/
def ACT (p : FVec Ideal S16384x5632 .f32) : FVec Ideal S16384x2816 .f32 :=
  mulf (mulf (extractStridedSlice S16384x2816 ![0, 0] p slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] p slices_S16384x5632_S16384x2816_0_0))))))
    (extractStridedSlice S16384x2816 ![0, 2816] p slices_S16384x5632_S16384x2816_0_2816)

/-- The residual after the feed-forward network on the normalised rows `h`. -/
def FED (x h : FVec Ideal S16384x1024 .f32) (wi : FVec Ideal S1024x5632 .bf16) (wo : FVec Ideal S2816x1024 .bf16) :
    FVec Ideal S16384x1024 .f32 :=
  addf x (Host.dotGeneral dot_S16384x2816_S2816x1024_S16384x1024_1_0_0_1_n_n none
    (ACT (Host.dotGeneral dot_S16384x1024_S1024x5632_S16384x5632_1_0_0_1_n_n none h (extf .f32 wi bitsLt_bf16_f32)))
    (extf .f32 wo bitsLt_bf16_f32))

/-- The host's result. -/
def OUT (x : FVec Ideal S16384x1024 .f32) (o : FVec Ideal S16384x512 .bf16) (y : FVec Ideal S16384x512 .f32)
    (ga gs : FVec Ideal S16384x1024 .bf16) (wap : FVec Ideal S512x1024 .bf16) (wglu : FVec Ideal S512x512 .bf16)
    (bglu : FVec Ideal S1x512 .f32) (wsp : FVec Ideal S512x1024 .bf16) (wout : FVec Ideal S1024x1024 .bf16)
    (nffn : FVec Ideal S1x1024 .f32) (wi : FVec Ideal S1024x5632 .bf16) (wo : FVec Ideal S2816x1024 .bf16)
    (nfin : FVec Ideal S1024 .f32) : FVec Ideal S16384x1024 .f32 :=
  RMS (FED (X1 x o (GLU (GELU y) wglu bglu) ga gs wap wsp wout)
      (RMS (X1 x o (GLU (GELU y) wglu bglu) ga gs wap wsp wout) (shapeCast _ nffn shapeCasts_S1x1024_S1024)) wi wo) nfin

/-! ## Their entries -/

theorem gelu_at (y : FVec Ideal S16384x512 .f32) (r : Fin 16384) (j : Fin 512) :
    GELU y (ix2 r j) = Rows.gelu (y (ix2 r j)) := by
  pointwise [GELU, Rows.gelu]
  rw [mul_comm (y (ix2 r j) * y (ix2 r j))]

theorem glu_at (y : FVec Ideal S16384x512 .f32) (w : FVec Ideal S512x512 .bf16) (b : FVec Ideal S1x512 .f32)
    (r : Fin 16384) (j : Fin 512) :
    GLU (GELU y) w b (ix2 r j) = Rows.glu (fun l => y (ix2 r l)) (fun k l => w (ix2 k l)) (fun l => b (ix2 0 l)) j := by
  pointwise [GLU, gelu_at, Rows.glu]
  rfl

theorem x1_at (x : FVec Ideal S16384x1024 .f32) (o : FVec Ideal S16384x512 .bf16) (z : FVec Ideal S16384x512 .f32)
    (ga gs : FVec Ideal S16384x1024 .bf16) (wap wsp : FVec Ideal S512x1024 .bf16) (wout : FVec Ideal S1024x1024 .bf16)
    (r : Fin 16384) (j : Fin 1024) :
    X1 x o z ga gs wap wsp wout (ix2 r j) = Rows.mixed (fun l => x (ix2 r l))
      (Rows.merged (fun l => o (ix2 r l)) (fun l => z (ix2 r l)) (fun l => ga (ix2 r l)) (fun l => gs (ix2 r l))
        (fun k l => wap (ix2 k l)) (fun k l => wsp (ix2 k l))) (fun k l => wout (ix2 k l)) j := by
  pointwise [X1, Rows.mixed, Rows.merged]

theorem rms_at (x : FVec Ideal S16384x1024 .f32) (g : FVec Ideal S1024 .f32) (r : Fin 16384) (j : Fin 1024) :
    RMS x g (ix2 r j) = Rows.rms (fun l => x (ix2 r l)) (fun l => g (ix1 l)) j := by
  pointwise [RMS, Rows.rms]

theorem act_at (p : FVec Ideal S16384x5632 .f32) (r : Fin 16384) (n : Fin 2816) :
    ACT p (ix2 r n) = Rows.silu (p (ix2 r ⟨n.val, by omega⟩)) * p (ix2 r ⟨2816 + n.val, by omega⟩) := by
  pointwise [ACT, Rows.silu]
  rfl

theorem fed_at (x h : FVec Ideal S16384x1024 .f32) (wi : FVec Ideal S1024x5632 .bf16) (wo : FVec Ideal S2816x1024 .bf16)
    (r : Fin 16384) (j : Fin 1024) :
    FED x h wi wo (ix2 r j) = Rows.fed (fun l => x (ix2 r l)) (fun l => h (ix2 r l)) (fun k l => wi (ix2 k l))
      (fun k l => wo (ix2 k l)) j := by
  pointwise [FED, act_at, Rows.fed, Rows.hidden]

theorem out_at (x : FVec Ideal S16384x1024 .f32) (o : FVec Ideal S16384x512 .bf16) (y : FVec Ideal S16384x512 .f32)
    (ga gs : FVec Ideal S16384x1024 .bf16) (wap : FVec Ideal S512x1024 .bf16) (wglu : FVec Ideal S512x512 .bf16)
    (bglu : FVec Ideal S1x512 .f32) (wsp : FVec Ideal S512x1024 .bf16) (wout : FVec Ideal S1024x1024 .bf16)
    (nffn : FVec Ideal S1x1024 .f32) (wi : FVec Ideal S1024x5632 .bf16) (wo : FVec Ideal S2816x1024 .bf16)
    (nfin : FVec Ideal S1024 .f32) (r : Fin 16384) (j : Fin 1024) :
    OUT x o y ga gs wap wglu bglu wsp wout nffn wi wo nfin (ix2 r j)
      = Rows.post (fun l => x (ix2 r l)) (fun l => o (ix2 r l)) (fun l => y (ix2 r l)) (fun l => ga (ix2 r l))
          (fun l => gs (ix2 r l)) (fun k l => wap (ix2 k l)) (fun k l => wglu (ix2 k l)) (fun l => bglu (ix2 0 l))
          (fun k l => wsp (ix2 k l)) (fun k l => wout (ix2 k l)) (fun l => nffn (ix2 0 l)) (fun k l => wi (ix2 k l))
          (fun k l => wo (ix2 k l)) (fun l => nfin (ix1 l)) j := by
  simp only [OUT, rms_at, fed_at, x1_at, glu_at]
  rw [Rows.post]
  pointwise []

end Cert.PostRefIdeal.Rows
-- ==== Proof.PostValue.lean ====
/- The array the `post` call returns: every row is the row formula of that row of the arguments. -/
module

public import proofs.«01_k».proof.Proof.Gen.PostIdeal.Value
public import Idealize.ShloMosaic.Lib.Claim
public import proofs.«01_k».proof.Proof.PostOut
public import proofs.«01_k».proof.Proof.PostRef

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen

variable (m : (ℓ : Loc nD τ sig) → Buf (Elt Ideal) ℓ)

/-- Where the windows stand at grid point `t`: the activations and the result at row block `t`, the weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0])

/-- The last norm's scale as the region finds it: the argument, as a one-row matrix. -/
theorem V_nfin (c : Dev nD) (l : Fin 1024) :
    V m c main_v0 (ix2 0 l) = m ((c.tc : Thread nD τ).loc main_arg13) (ix1 l) := by
  entry_read
  pointwise []

set_option maxHeartbeats 2000000 in
/-- The returned array. -/
theorem final (c : Dev nD) : (dats m 0 c).arrAt 14 cfg0.N
    = Cert.PostRefIdeal.Rows.OUT (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13)) := by
  refine (dats m 0 c).arrAt_eq_of_covers 14 _ (by decide +kernel) fun t hf y => ?_
  idx_vars y
  have ht : t.val < 32 := lt_of_lt_of_eq t.isLt N_0
  rw [after0_14]
  have e : ((cfg0.win 14).blk t).view.emb (ix2 y0 y1) = ix2 ⟨t.val * 512 + y0.val, by omega⟩ y1 := by
    blk_ext [idx t]
  refine (Pay.out_at _ _ _ _ _ _ _ _ _ _ _ _ _ _ y0 y1).trans ?_
  refine Eq.trans ?_ ((congrArg _ e).trans (Cert.PostRefIdeal.Rows.out_at _ _ _ _ _ _ _ _ _ _ _ _ _ _ _ _)).symm
  congr 1
  case e_nfin => funext l; refine Eq.trans ?_ (V_nfin m c l); blk_ext [iblk, idx t]
  case e_wap | e_wglu | e_wsp | e_wout | e_wi | e_wo => funext k l; blk_ext [iblk, V, idx t]
  all_goals funext l; blk_ext [iblk, V, idx t]

end Cert.PostIdeal.Value
-- ==== Proof.PostClaim.lean ====
/- The claims about the `post` call. -/
module

public import proofs.«01_k».proof.Defs
public import proofs.«01_k».proof.Proof.Gen.Post.Frame
public import proofs.«01_k».proof.Proof.PostValue

@[expose] public section

set_option maxRecDepth 16384

noncomputable section

namespace Cert.Proof

open Idealize.ShloMosaic Idealize.SL.Sem

set_option maxHeartbeats 2000000 in
/-- The reference keeps its arguments. -/
theorem post_ref : Cert.quiescent_PostRefIdeal := by
  intro m g _
  hlo_run
  · exact fun _ => by simp only [and_self]
  exact Idealize.ShloMosaic.sem_eq_zero_of_no_sems (sig := Cert.PostRefIdeal.sig) (by decide) _

set_option maxHeartbeats 2000000 in
/-- The kernel's result is the reference's. -/
theorem post_algebraic : Cert.algebraic_PostIdeal_PostRefIdeal := by
  pair_intro
  · run_from Cert.PostIdeal.Gen.run_main m g
  · hlo_run
    exact (Cert.PostIdeal.Value.final m c).symm

end Cert.Proof

end
-- ==== Proof.PostSPay.lean ====
/- The payloads of the `post` kernel at the sampled tokens, read at one entry of the block: each is a row formula of the
   block's own row. -/
module

public import proofs.«01_k».proof.Proof.Gen.PostSIdeal.Skeleton
public import proofs.«01_k».proof.Proof.Rows

@[expose] public section

set_option maxRecDepth 16384

noncomputable section

open Idealize.ShloMosaic Idealize.ShloMosaic.TcCoe Idealize.SL.Sem

namespace Cert.PostSIdeal.Pay

open Cert.PostSIdeal Cert.PostSIdeal.Gen

theorem merged_at (y : FVec Ideal S32x512 .f32) (wglu : FVec Ideal S512x512 .bf16) (b : FVec Ideal S1x512 .f32)
    (wsp : FVec Ideal S512x1024 .bf16) (o : FVec Ideal S32x512 .f32) (wap : FVec Ideal S512x1024 .bf16)
    (ga gs : FVec Ideal S32x1024 .bf16) (r : Fin 32) (j : Fin 1024) :
    k0_pay2 (F := Ideal) y wglu b wsp o wap ga gs (ix2 r j)
      = Rows.merged (fun k => o (ix2 r k)) (Rows.glu (fun k => y (ix2 r k)) (fun k l => wglu (ix2 k l)) fun l => b (ix2 0 l))
          (fun l => ga (ix2 r l)) (fun l => gs (ix2 r l)) (fun k l => wap (ix2 k l)) (fun k l => wsp (ix2 k l)) j := by
  pointwise [k0_pay2, Rows.merged, Rows.glu, Rows.gelu]

theorem mixed_at (mg : FVec Ideal S32x1024 .f32) (x : FVec Ideal S32x1024 .f32) (w : FVec Ideal S1024x1024 .bf16)
    (r : Fin 32) (j : Fin 1024) :
    k0_pay3 (F := Ideal) mg x w (ix2 r j)
      = Rows.mixed (fun l => x (ix2 r l)) (fun l => mg (ix2 r l)) (fun k l => w (ix2 k l)) j := by
  pointwise [k0_pay3, Rows.mixed]

theorem normed_at (mg : FVec Ideal S32x1024 .f32) (x : FVec Ideal S32x1024 .f32) (w : FVec Ideal S1024x1024 .bf16)
    (g : FVec Ideal S1x1024 .f32) (r : Fin 32) (j : Fin 1024) :
    k0_pay4 (F := Ideal) mg x w g (ix2 r j)
      = Rows.rms (fun l => k0_pay3 (F := Ideal) mg x w (ix2 r l)) (fun l => g (ix2 0 l)) j := by
  pointwise [k0_pay4, Rows.rms]

/-- The first 256 hidden units, added to the residual row. -/
theorem first_at (mg : FVec Ideal S32x1024 .f32) (x : FVec Ideal S32x1024 .f32) (w : FVec Ideal S1024x1024 .bf16)
    (g : FVec Ideal S1x1024 .f32) (wg wu : FVec Ideal S1024x256 .bf16) (wo : FVec Ideal S256x1024 .bf16) (r : Fin 32)
    (j : Fin 1024) :
    k0_pay5 (F := Ideal) mg x w g wg wu wo (ix2 r j)
      = k0_pay3 (F := Ideal) mg x w (ix2 r j) + Rows.piece (fun l => k0_pay4 (F := Ideal) mg x w g (ix2 r l))
          (fun k t => wg (ix2 k t)) (fun k t => wu (ix2 k t)) (fun t l => wo (ix2 t l)) j := by
  pointwise [k0_pay5, Rows.piece, Rows.silu]

/-- A chunk whose gate and value products, and the gate's logistic, were formed one part earlier. -/
theorem carried (h : FVec Ideal S32x1024 .bf16) (wg wu : FVec Ideal S1024x256 .bf16) (wo : FVec Ideal S256x1024 .bf16)
    (r : Fin 32) (j : Fin 1024) :
    ∑ t, k0_pay10 (F := Ideal) h wg (ix2 r t) * k0_pay12 (F := Ideal) h wg (ix2 r t) * k0_pay10 (F := Ideal) h wu (ix2 r t)
        * wo (ix2 t j)
      = Rows.piece (fun l => h (ix2 r l)) (fun k t => wg (ix2 k t)) (fun k t => wu (ix2 k t)) (fun t l => wo (ix2 t l)) j := by
  pointwise [k0_pay10, k0_pay12, Rows.piece, Rows.silu]

theorem three_at (h : FVec Ideal S32x1024 .bf16) (acc : FVec Ideal S32x1024 .f32) (g u s : FVec Ideal S32x256 .f32)
    (wo : FVec Ideal S256x1024 .bf16) (wg1 wu1 : FVec Ideal S1024x256 .bf16) (wo1 : FVec Ideal S256x1024 .bf16)
    (wg2 wu2 : FVec Ideal S1024x256 .bf16) (wo2 : FVec Ideal S256x1024 .bf16) (r : Fin 32) (j : Fin 1024) :
    k0_pay9 (F := Ideal) h acc g u s wo wg1 wu1 wo1 wg2 wu2 wo2 (ix2 r j)
      = acc (ix2 r j) + ∑ t, g (ix2 r t) * s (ix2 r t) * u (ix2 r t) * wo (ix2 t j)
        + Rows.piece (fun l => h (ix2 r l)) (fun k t => wg1 (ix2 k t)) (fun k t => wu1 (ix2 k t)) (fun t l => wo1 (ix2 t l)) j
        + Rows.piece (fun l => h (ix2 r l)) (fun k t => wg2 (ix2 k t)) (fun k t => wu2 (ix2 k t)) (fun t l => wo2 (ix2 t l)) j := by
  pointwise [k0_pay9, Rows.piece, Rows.silu]

theorem last_at (acc : FVec Ideal S32x1024 .f32) (g u s : FVec Ideal S32x256 .f32)
    (wo : FVec Ideal S256x1024 .bf16) (nf : FVec Ideal S1x1024 .f32) (r : Fin 32) (j : Fin 1024) :
    k0_pay1 (F := Ideal) acc g u s wo nf (ix2 r j)
      = Rows.rms (fun l => acc (ix2 r l) + ∑ t, g (ix2 r t) * s (ix2 r t) * u (ix2 r t) * wo (ix2 t l))
          (fun l => nf (ix2 0 l)) j := by
  pointwise [k0_pay1, Rows.rms]

end Cert.PostSIdeal.Pay
-- ==== Proof.PostSOut.lean ====
/- What the `post` body at the sampled tokens leaves in its output block, entry by entry. -/
module

public import proofs.«01_k».proof.Proof.Gen.PostSIdeal.Frame
public import proofs.«01_k».proof.Proof.PostSPay

@[expose] public section

set_option maxRecDepth 16384

noncomputable section

open Idealize.ShloMosaic Idealize.ShloMosaic.TcCoe Idealize.SL.Sem

namespace Cert.PostSIdeal.Pay

open Cert.PostSIdeal Cert.PostSIdeal.Gen

/-- The later parts' payloads are the first chunked part's, under other names. -/
theorem eq13 : @k0_pay13 = @k0_pay9 := rfl
theorem eq17 : @k0_pay17 = @k0_pay9 := rfl
theorem eq11 : @k0_pay11 = @k0_pay10 := rfl
theorem eq14 : @k0_pay14 = @k0_pay10 := rfl
theorem eq15 : @k0_pay15 = @k0_pay10 := rfl
theorem eq18 : @k0_pay18 = @k0_pay10 := rfl
theorem eq19 : @k0_pay19 = @k0_pay10 := rfl
theorem eq16 : @k0_pay16 = @k0_pay12 := rfl
theorem eq20 : @k0_pay20 = @k0_pay12 := rfl

/-- The products of the chunk the first part hands on are those of the later parts, of the normalised rows. -/
theorem eq6 (mg x : FVec Ideal S32x1024 .f32) (w : FVec Ideal S1024x1024 .bf16) (g : FVec Ideal S1x1024 .f32)
    (v : FVec Ideal S1024x256 .bf16) : k0_pay6 (F := Ideal) mg x w g v = k0_pay10 (F := Ideal) (k0_pay4 (F := Ideal) mg x w g) v := rfl
theorem eq7 (mg x : FVec Ideal S32x1024 .f32) (w : FVec Ideal S1024x1024 .bf16) (g : FVec Ideal S1x1024 .f32)
    (v : FVec Ideal S1024x256 .bf16) : k0_pay7 (F := Ideal) mg x w g v = k0_pay10 (F := Ideal) (k0_pay4 (F := Ideal) mg x w g) v := rfl
theorem eq8 (mg x : FVec Ideal S32x1024 .f32) (w : FVec Ideal S1024x1024 .bf16) (g : FVec Ideal S1x1024 .f32)
    (v : FVec Ideal S1024x256 .bf16) : k0_pay8 (F := Ideal) mg x w g v = k0_pay12 (F := Ideal) (k0_pay4 (F := Ideal) mg x w g) v := rfl

/-- Every entry of the output block is the row formula of its row. -/
theorem out_at (x0 : FVec Ideal S32x1024 .f32) (x1 : FVec Ideal S32x512 .f32) (x2 : FVec Ideal S32x512 .f32)
    (x3 x4 : FVec Ideal S32x1024 .bf16) (x5 : FVec Ideal S512x1024 .bf16) (x6 : FVec Ideal S512x512 .bf16)
    (x7 : FVec Ideal S1x512 .f32) (x8 : FVec Ideal S512x1024 .bf16) (x9 : FVec Ideal S1024x1024 .bf16)
    (x10 : FVec Ideal S1x1024 .f32) (x11 : FVec Ideal S1024x5632 .bf16) (x12 : FVec Ideal S2816x1024 .bf16)
    (x13 : FVec Ideal S1x1024 .f32) (r : Fin 32) (j : Fin 1024) :
    out0_14 (F := Ideal) x0 x1 x2 x3 x4 x5 x6 x7 x8 x9 x10 x11 x12 x13 (ix2 r j)
      = Rows.post (fun l => x0 (ix2 r l)) (fun l => x1 (ix2 r l)) (fun l => x2 (ix2 r l)) (fun l => x3 (ix2 r l))
          (fun l => x4 (ix2 r l)) (fun k l => x5 (ix2 k l)) (fun k l => x6 (ix2 k l)) (fun l => x7 (ix2 0 l))
          (fun k l => x8 (ix2 k l)) (fun k l => x9 (ix2 k l)) (fun l => x10 (ix2 0 l)) (fun k l => x11 (ix2 k l))
          (fun k l => x12 (ix2 k l)) (fun l => x13 (ix2 0 l)) j := by
  unfold_out out0_14
  frame_out
  simp only [eq13, eq17, eq11, eq14, eq15, eq18, eq19, eq16, eq20, eq6, eq7, eq8, last_at, three_at, first_at, carried]
  rw [Rows.post]
  pointwise [normed_at, mixed_at, merged_at]
  refine congrArg (fun f => Rows.rms f _ j) (funext fun l => ?_)
  rw [Rows.fed_eq_parts]
  iterate 11 refine congrArg₂ (· + ·) ?_ (Rows.piece_eq_part _ _ _ _ _ _ _ _ ?_ ?_ ?_)
  · rfl
  all_goals
    intro a b
    blk_ext

end Cert.PostSIdeal.Pay
-- ==== Proof.PostSRef.lean ====
/- The reference of the `post` call at the sampled tokens: its run leaves, in every row of the result, the row formulas of that row. The host's
   term is cut at its own intermediate arrays, each read at an entry by the row formula it is. -/
module

public import proofs.«01_k».proof.Proof.Gen.PostSRefIdeal
public import Idealize.ShloMosaic.Lib.Claim
public import proofs.«01_k».proof.Proof.Rows

@[expose] public section

set_option maxRecDepth 16384

noncomputable section

open Idealize.ShloMosaic Idealize.ShloMosaic.TcCoe Idealize.SL.Sem

namespace Cert.PostSRefIdeal.Rows

open Cert.PostSRefIdeal Cert.PostSRefIdeal.Gen

/-! ## The host's intermediate arrays -/

/-- `gelu(y)`. -/
def GELU (y : FVec Ideal S32x512 .f32) : FVec Ideal S32x512 .f32 :=
  mulf y (mulf (broadcastInDim S32x512 ![] bcast_S_S32x512 (constant S_ .f32 0x3F000000#32))
    (addf (broadcastInDim S32x512 ![] bcast_S_S32x512 (constant S_ .f32 0x3F800000#32))
      (Host.tanh (mulf (broadcastInDim S32x512 ![] bcast_S_S32x512 (constant S_ .f32 0x3F4C422A#32))
        (addf y (mulf (broadcastInDim S32x512 ![] bcast_S_S32x512 (constant S_ .f32 0x3D372713#32))
          (mulf (mulf y y) y)))))))

/-- The gated linear unit on `g = gelu(y)`. -/
def GLU (g : FVec Ideal S32x512 .f32) (w : FVec Ideal S512x512 .bf16) (b : FVec Ideal S1x512 .f32) :
    FVec Ideal S32x512 .f32 :=
  mulf g (Host.divf (broadcastInDim S32x512 ![] bcast_S_S32x512 (constant S_ .f32 0x3F800000#32))
    (addf (broadcastInDim S32x512 ![] bcast_S_S32x512 (constant S_ .f32 0x3F800000#32))
      (Host.exp (Host.negf (addf
        (Host.dotGeneral dot_S32x512_S512x512_S32x512_1_0_0_1_n_n none g (extf .f32 w bitsLt_bf16_f32))
        (broadcastInDim S32x512 ![0, 1] bcast_S1x512_S32x512_0_1
          (broadcastInDim S1x512 ![1] bcast_S512_S1x512_1 (shapeCast _ b shapeCasts_S1x512_S512))))))))

/-- The residual after the mixers, from the gated recurrence rows `z`. -/
def X1 (x : FVec Ideal S32x1024 .f32) (o : FVec Ideal S32x512 .f32) (z : FVec Ideal S32x512 .f32)
    (ga gs : FVec Ideal S32x1024 .bf16) (wap wsp : FVec Ideal S512x1024 .bf16) (wout : FVec Ideal S1024x1024 .bf16) :
    FVec Ideal S32x1024 .f32 :=
  addf x (Host.dotGeneral dot_S32x1024_S1024x1024_S32x1024_1_0_0_1_n_n none
    (addf (mulf (extf .f32 ga bitsLt_bf16_f32) (Host.dotGeneral dot_S32x512_S512x1024_S32x1024_1_0_0_1_n_n none
        o (extf .f32 wap bitsLt_bf16_f32)))
      (mulf (extf .f32 gs bitsLt_bf16_f32) (Host.dotGeneral dot_S32x512_S512x1024_S32x1024_1_0_0_1_n_n none
        z (extf .f32 wsp bitsLt_bf16_f32))))
    (extf .f32 wout bitsLt_bf16_f32))

/-- The norm of the rows of `x` under the scale `g`. -/
def RMS (x : FVec Ideal S32x1024 .f32) (g : FVec Ideal S1024 .f32) : FVec Ideal S32x1024 .f32 :=
  mulf (mulf x (broadcastInDim S32x1024 ![0, 1] bcast_S32x1_S32x1024_0_1
      (Host.rsqrt (addf (Host.divf
        (broadcastInDim S32x1 ![0] bcast_S32_S32x1_0
          (Host.reduceAdd (mulf x x) (constant S_ .f32 0x00000000#32) reducesTo_S32x1024_S32_d1 h_S_))
        (broadcastInDim S32x1 ![] bcast_S_S32x1 (constant S_ .f32 0x44800000#32)))
        (broadcastInDim S32x1 ![] bcast_S_S32x1 (constant S_ .f32 0x358637BD#32))))))
    (broadcastInDim S32x1024 ![0, 1] bcast_S1x1024_S32x1024_0_1
      (broadcastInDim S1x1024 ![1] bcast_S1024_S1x1024_1 g))

/-- The hidden units from the two halves of the input product. -/
def ACT (p : FVec Ideal S32x5632 .f32) : FVec Ideal S32x2816 .f32 :=
  mulf (mulf (extractStridedSlice S32x2816 ![0, 0] p slices_S32x5632_S32x2816_0_0)
      (Host.divf (broadcastInDim S32x2816 ![] bcast_S_S32x2816 (constant S_ .f32 0x3F800000#32))
        (addf (broadcastInDim S32x2816 ![] bcast_S_S32x2816 (constant S_ .f32 0x3F800000#32))
          (Host.exp (Host.negf (extractStridedSlice S32x2816 ![0, 0] p slices_S32x5632_S32x2816_0_0))))))
    (extractStridedSlice S32x2816 ![0, 2816] p slices_S32x5632_S32x2816_0_2816)

/-- The residual after the feed-forward network on the normalised rows `h`. -/
def FED (x h : FVec Ideal S32x1024 .f32) (wi : FVec Ideal S1024x5632 .bf16) (wo : FVec Ideal S2816x1024 .bf16) :
    FVec Ideal S32x1024 .f32 :=
  addf x (Host.dotGeneral dot_S32x2816_S2816x1024_S32x1024_1_0_0_1_n_n none
    (ACT (Host.dotGeneral dot_S32x1024_S1024x5632_S32x5632_1_0_0_1_n_n none h (extf .f32 wi bitsLt_bf16_f32)))
    (extf .f32 wo bitsLt_bf16_f32))

/-- The host's result. -/
def OUT (x : FVec Ideal S32x1024 .f32) (o : FVec Ideal S32x512 .f32) (y : FVec Ideal S32x512 .f32)
    (ga gs : FVec Ideal S32x1024 .bf16) (wap : FVec Ideal S512x1024 .bf16) (wglu : FVec Ideal S512x512 .bf16)
    (bglu : FVec Ideal S1x512 .f32) (wsp : FVec Ideal S512x1024 .bf16) (wout : FVec Ideal S1024x1024 .bf16)
    (nffn : FVec Ideal S1x1024 .f32) (wi : FVec Ideal S1024x5632 .bf16) (wo : FVec Ideal S2816x1024 .bf16)
    (nfin : FVec Ideal S1024 .f32) : FVec Ideal S32x1024 .f32 :=
  RMS (FED (X1 x o (GLU (GELU y) wglu bglu) ga gs wap wsp wout)
      (RMS (X1 x o (GLU (GELU y) wglu bglu) ga gs wap wsp wout) (shapeCast _ nffn shapeCasts_S1x1024_S1024)) wi wo) nfin

/-! ## Their entries -/

theorem gelu_at (y : FVec Ideal S32x512 .f32) (r : Fin 32) (j : Fin 512) :
    GELU y (ix2 r j) = Rows.gelu (y (ix2 r j)) := by
  pointwise [GELU, Rows.gelu]
  rw [mul_comm (y (ix2 r j) * y (ix2 r j))]

theorem glu_at (y : FVec Ideal S32x512 .f32) (w : FVec Ideal S512x512 .bf16) (b : FVec Ideal S1x512 .f32)
    (r : Fin 32) (j : Fin 512) :
    GLU (GELU y) w b (ix2 r j) = Rows.glu (fun l => y (ix2 r l)) (fun k l => w (ix2 k l)) (fun l => b (ix2 0 l)) j := by
  pointwise [GLU, gelu_at, Rows.glu]
  rfl

theorem x1_at (x : FVec Ideal S32x1024 .f32) (o : FVec Ideal S32x512 .f32) (z : FVec Ideal S32x512 .f32)
    (ga gs : FVec Ideal S32x1024 .bf16) (wap wsp : FVec Ideal S512x1024 .bf16) (wout : FVec Ideal S1024x1024 .bf16)
    (r : Fin 32) (j : Fin 1024) :
    X1 x o z ga gs wap wsp wout (ix2 r j) = Rows.mixed (fun l => x (ix2 r l))
      (Rows.merged (fun l => o (ix2 r l)) (fun l => z (ix2 r l)) (fun l => ga (ix2 r l)) (fun l => gs (ix2 r l))
        (fun k l => wap (ix2 k l)) (fun k l => wsp (ix2 k l))) (fun k l => wout (ix2 k l)) j := by
  pointwise [X1, Rows.mixed, Rows.merged]

theorem rms_at (x : FVec Ideal S32x1024 .f32) (g : FVec Ideal S1024 .f32) (r : Fin 32) (j : Fin 1024) :
    RMS x g (ix2 r j) = Rows.rms (fun l => x (ix2 r l)) (fun l => g (ix1 l)) j := by
  pointwise [RMS, Rows.rms]

theorem act_at (p : FVec Ideal S32x5632 .f32) (r : Fin 32) (n : Fin 2816) :
    ACT p (ix2 r n) = Rows.silu (p (ix2 r ⟨n.val, by omega⟩)) * p (ix2 r ⟨2816 + n.val, by omega⟩) := by
  pointwise [ACT, Rows.silu]
  rfl

theorem fed_at (x h : FVec Ideal S32x1024 .f32) (wi : FVec Ideal S1024x5632 .bf16) (wo : FVec Ideal S2816x1024 .bf16)
    (r : Fin 32) (j : Fin 1024) :
    FED x h wi wo (ix2 r j) = Rows.fed (fun l => x (ix2 r l)) (fun l => h (ix2 r l)) (fun k l => wi (ix2 k l))
      (fun k l => wo (ix2 k l)) j := by
  pointwise [FED, act_at, Rows.fed, Rows.hidden]

theorem out_at (x : FVec Ideal S32x1024 .f32) (o : FVec Ideal S32x512 .f32) (y : FVec Ideal S32x512 .f32)
    (ga gs : FVec Ideal S32x1024 .bf16) (wap : FVec Ideal S512x1024 .bf16) (wglu : FVec Ideal S512x512 .bf16)
    (bglu : FVec Ideal S1x512 .f32) (wsp : FVec Ideal S512x1024 .bf16) (wout : FVec Ideal S1024x1024 .bf16)
    (nffn : FVec Ideal S1x1024 .f32) (wi : FVec Ideal S1024x5632 .bf16) (wo : FVec Ideal S2816x1024 .bf16)
    (nfin : FVec Ideal S1024 .f32) (r : Fin 32) (j : Fin 1024) :
    OUT x o y ga gs wap wglu bglu wsp wout nffn wi wo nfin (ix2 r j)
      = Rows.post (fun l => x (ix2 r l)) (fun l => o (ix2 r l)) (fun l => y (ix2 r l)) (fun l => ga (ix2 r l))
          (fun l => gs (ix2 r l)) (fun k l => wap (ix2 k l)) (fun k l => wglu (ix2 k l)) (fun l => bglu (ix2 0 l))
          (fun k l => wsp (ix2 k l)) (fun k l => wout (ix2 k l)) (fun l => nffn (ix2 0 l)) (fun k l => wi (ix2 k l))
          (fun k l => wo (ix2 k l)) (fun l => nfin (ix1 l)) j := by
  simp only [OUT, rms_at, fed_at, x1_at, glu_at]
  rw [Rows.post]
  pointwise []

end Cert.PostSRefIdeal.Rows
-- ==== Proof.PostSValue.lean ====
/- The array the `post` call returns for the sampled tokens: every row is the row formula of that row of the arguments. -/
module

public import proofs.«01_k».proof.Proof.Gen.PostSIdeal.Value
public import Idealize.ShloMosaic.Lib.Claim
public import proofs.«01_k».proof.Proof.PostSOut
public import proofs.«01_k».proof.Proof.PostSRef

@[expose] public section

set_option maxRecDepth 16384

noncomputable section

open Idealize.ShloMosaic Idealize.ShloMosaic.TcCoe Idealize.SL.Sem
open Idealize.ShloMosaic.Pipeline (Dat)

namespace Cert.PostSIdeal.Value

open Cert.PostSIdeal Cert.PostSIdeal.Gen

variable (m : (ℓ : Loc nD τ sig) → Buf (Elt Ideal) ℓ)

/-- Every window stands at the origin. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0])

/-- The last norm's scale as the region finds it: the argument, as a one-row matrix. -/
theorem V_nfin (c : Dev nD) (l : Fin 1024) :
    V m c main_v0 (ix2 0 l) = m ((c.tc : Thread nD τ).loc main_arg13) (ix1 l) := by
  entry_read
  pointwise []

set_option maxHeartbeats 2000000 in
/-- The returned array. -/
theorem final (c : Dev nD) : (dats m 0 c).arrAt 14 cfg0.N
    = Cert.PostSRefIdeal.Rows.OUT (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13)) := by
  refine (dats m 0 c).arrAt_eq_of_covers 14 _ (by decide +kernel) fun t hf y => ?_
  idx_vars y
  rw [after0_14]
  have e : ((cfg0.win 14).blk t).view.emb (ix2 y0 y1) = ix2 y0 y1 := by
    blk_ext [idx t]
  refine (Pay.out_at _ _ _ _ _ _ _ _ _ _ _ _ _ _ y0 y1).trans ?_
  refine Eq.trans ?_ ((congrArg _ e).trans (Cert.PostSRefIdeal.Rows.out_at _ _ _ _ _ _ _ _ _ _ _ _ _ _ _ _)).symm
  congr 1
  case e_nfin => funext l; refine Eq.trans ?_ (V_nfin m c l); blk_ext [iblk, idx t]
  case e_wap | e_wglu | e_wsp | e_wout | e_wi | e_wo => funext k l; blk_ext [iblk, V, idx t]
  all_goals funext l; blk_ext [iblk, V, idx t]

end Cert.PostSIdeal.Value
-- ==== Proof.PostSClaim.lean ====
/- The claims about the `post` call at the sampled tokens. -/
module

public import proofs.«01_k».proof.Defs
public import proofs.«01_k».proof.Proof.Gen.PostS.Frame
public import proofs.«01_k».proof.Proof.PostSValue

@[expose] public section

set_option maxRecDepth 16384

noncomputable section

namespace Cert.Proof

open Idealize.ShloMosaic Idealize.SL.Sem

set_option maxHeartbeats 2000000 in
/-- The reference keeps its arguments. -/
theorem post_s_ref : Cert.quiescent_PostSRefIdeal := by
  intro m g _
  hlo_run
  · exact fun _ => by simp only [and_self]
  exact Idealize.ShloMosaic.sem_eq_zero_of_no_sems (sig := Cert.PostSRefIdeal.sig) (by decide) _

set_option maxHeartbeats 2000000 in
/-- The kernel's result is the reference's. -/
theorem post_s_algebraic : Cert.algebraic_PostSIdeal_PostSRefIdeal := by
  pair_intro
  · run_from Cert.PostSIdeal.Gen.run_main m g
  · hlo_run
    exact (Cert.PostSIdeal.Value.final m c).symm

end Cert.Proof

end
-- ==== Proof.BodyInProjIdeal.lean ====
/- The proof data of the prompt's input projection at a grid point: what each output's buffer holds after the body (an
   `out…` lists an output's stores, the last one first), the body's triple, and the run of @main with every semaphore
   counter at zero at its end. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Ring
public import Idealize.ShloMosaic.Lib.Tactic
public import Idealize.ShloMosaic.Lib.Claim
public import Idealize.ShloMosaic.Lib.UnfoldOut
public import Idealize.ShloMosaic.Lib.WordCmp

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S32x1024 := Rect.unit (s := S32x1024) ![0, 0] S32x1024.size inb_S32x1024_S32x1024_0_0
abbrev r0_1 : Rect S32x512 := Rect.unit (s := S32x512) ![0, 0] S32x512.size inb_S32x512_S32x512_0_0
abbrev r0_2 : Rect S64x1024 := Rect.unit (s := S64x1024) ![0, 0] S64x1024.size inb_S64x1024_S64x1024_0_0
abbrev r0_3 : Rect S64x5632 := Rect.unit (s := S64x5632) ![0, 0] S64x5632.size inb_S64x5632_S64x5632_0_0
abbrev r0_4 : Rect S176x1024 := Rect.unit (s := S176x1024) ![0, 0] S176x1024.size inb_S176x1024_S176x1024_0_0
abbrev r0_5 : Rect S1024x128 := Rect.unit (s := S1024x128) ![0, 0] S1024x128.size inb_S1024x128_S1024x128_0_0
abbrev r0_6 : Rect S1024x1024 := Rect.unit (s := S1024x1024) ![0, 0] S1024x1024.size inb_S1024x1024_S1024x1024_0_0
abbrev r0_7 : Rect S1x1024 := Rect.unit (s := S1x1024) ![0, 0] S1x1024.size inb_S1x1024_S1x1024_0_0
abbrev r0_8 : Rect S1024x4096 := Rect.unit (s := S1024x4096) ![0, 0] S1024x512.size inb_S1024x4096_S1024x512_0_0
abbrev r0_9 : Rect S1024x4096 := Rect.unit (s := S1024x4096) ![0, 512] S1024x512.size inb_S1024x4096_S1024x512_0_512
abbrev r0_10 : Rect S1024x4096 := Rect.unit (s := S1024x4096) ![0, 1024] S1024x512.size inb_S1024x4096_S1024x512_0_1024
abbrev r0_11 : Rect S1024x4096 := Rect.unit (s := S1024x4096) ![0, 1536] S1024x512.size inb_S1024x4096_S1024x512_0_1536
abbrev r0_12 : Rect S1024x4096 := Rect.unit (s := S1024x4096) ![0, 2048] S1024x1024.size inb_S1024x4096_S1024x1024_0_2048
abbrev r0_13 : Rect S1024x4096 := Rect.unit (s := S1024x4096) ![0, 3072] S1024x1024.size inb_S1024x4096_S1024x1024_0_3072
abbrev r0_14 : Rect S1x512x1024 := Rect.unit (s := S1x512x1024) ![0, 0, 0] S1x512x1024.size inb_S1x512x1024_S1x512x1024_0_0_0
abbrev r0_15 : Rect S1024x512 := Rect.unit (s := S1024x512) ![0, 0] S1024x512.size inb_S1024x512_S1024x512_0_0
abbrev r0_16 : Rect S1x4x512x256 := Rect.unit (s := S1x4x512x256) ![0, 0, 0, 0] S1x1x512x256.size inb_S1x4x512x256_S1x1x512x256_0_0_0_0
abbrev r0_17 : Rect S1x4x1x512 := Rect.unit (s := S1x4x1x512) ![0, 0, 0, 0] S1x1x1x512.size inb_S1x4x1x512_S1x1x1x512_0_0_0_0
abbrev r0_18 : Rect S1x4x512x256 := Rect.unit (s := S1x4x512x256) ![0, 1, 0, 0] S1x1x512x256.size inb_S1x4x512x256_S1x1x512x256_0_1_0_0
abbrev r0_19 : Rect S1x4x1x512 := Rect.unit (s := S1x4x1x512) ![0, 1, 0, 0] S1x1x1x512.size inb_S1x4x1x512_S1x1x1x512_0_1_0_0
abbrev r0_20 : Rect S1x4x512x256 := Rect.unit (s := S1x4x512x256) ![0, 2, 0, 0] S1x1x512x256.size inb_S1x4x512x256_S1x1x512x256_0_2_0_0
abbrev r0_21 : Rect S1x4x1x512 := Rect.unit (s := S1x4x1x512) ![0, 2, 0, 0] S1x1x1x512.size inb_S1x4x1x512_S1x1x1x512_0_2_0_0
abbrev r0_22 : Rect S1x4x512x256 := Rect.unit (s := S1x4x512x256) ![0, 3, 0, 0] S1x1x512x256.size inb_S1x4x512x256_S1x1x512x256_0_3_0_0
abbrev r0_23 : Rect S1x4x1x512 := Rect.unit (s := S1x4x1x512) ![0, 3, 0, 0] S1x1x1x512.size inb_S1x4x1x512_S1x1x1x512_0_3_0_0

def out0_11 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1x4x512x256 .bf16 :=
  View.canon [⟨r0_22, k0_pay2 (k0_pay19 (k0_pay14 (k0_pay13 (View.ld x3 r0_5))) (k0_pay15 (View.ld x4 r0_5)) k0_pay17 (k0_pay18 (View.ld x0 r0_6) (View.ld x1 r0_7) (View.ld x2 r0_8)))⟩,
    ⟨r0_20, k0_pay36 (k0_pay19 (k0_pay14 (k0_pay13 (View.ld x3 r0_5))) (k0_pay15 (View.ld x4 r0_5)) k0_pay17 (k0_pay18 (View.ld x0 r0_6) (View.ld x1 r0_7) (View.ld x2 r0_8)))⟩,
    ⟨r0_18, k0_pay32 (k0_pay19 (k0_pay14 (k0_pay13 (View.ld x3 r0_5))) (k0_pay15 (View.ld x4 r0_5)) k0_pay17 (k0_pay18 (View.ld x0 r0_6) (View.ld x1 r0_7) (View.ld x2 r0_8)))⟩,
    ⟨r0_16, k0_pay29 (k0_pay19 (k0_pay14 (k0_pay13 (View.ld x3 r0_5))) (k0_pay15 (View.ld x4 r0_5)) k0_pay17 (k0_pay18 (View.ld x0 r0_6) (View.ld x1 r0_7) (View.ld x2 r0_8)))⟩]

theorem cover0_11 (p0 : Vec F S1x1x512x256 .bf16) (p1 : Vec F S1x1x512x256 .bf16) (p2 : Vec F S1x1x512x256 .bf16) (p3 : Vec F S1x1x512x256 .bf16) (y : S1x4x512x256.Idx) :
    ∃ pc ∈ ([⟨r0_22, p0⟩, ⟨r0_20, p1⟩, ⟨r0_18, p2⟩, ⟨r0_16, p3⟩] : List (View.Piece (Elt F) S1x4x512x256 .bf16)), y ∈ pc.1.set :=
  View.cover_of_tiled [⟨r0_22, p0⟩, ⟨r0_20, p1⟩, ⟨r0_18, p2⟩, ⟨r0_16, p3⟩] S1x1x512x256.size (by rfl) y

def out0_12 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1x512x1024 .f32 :=
  View.canon [⟨r0_14, k0_pay25 (k0_pay14 (k0_pay13 (View.ld x3 r0_5))) (k0_pay15 (View.ld x4 r0_5)) (k0_pay16 (View.ld x0 r0_6) (View.ld x1 r0_7)) k0_pay17 (View.ld x2 r0_9)⟩]

theorem cover0_12 (p0 : Vec F S1x512x1024 .f32) (y : S1x512x1024.Idx) :
    ∃ pc ∈ ([⟨r0_14, p0⟩] : List (View.Piece (Elt F) S1x512x1024 .f32)), y ∈ pc.1.set :=
  View.cover_of_tiled [⟨r0_14, p0⟩] S1x512x1024.size (by rfl) y

def out0_13 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1024x512 .bf16 :=
  View.canon [⟨r0_15, k0_pay28 (k0_pay20 (k0_pay14 (k0_pay13 (View.ld x3 r0_5))) (k0_pay15 (View.ld x4 r0_5)) (k0_pay16 (View.ld x0 r0_6) (View.ld x1 r0_7)) k0_pay17 (View.ld x2 r0_9))⟩]

theorem cover0_13 (p0 : Vec F S1024x512 .bf16) (y : S1024x512.Idx) :
    ∃ pc ∈ ([⟨r0_15, p0⟩] : List (View.Piece (Elt F) S1024x512 .bf16)), y ∈ pc.1.set :=
  View.cover_of_tiled [⟨r0_15, p0⟩] S1024x512.size (by rfl) y

def out0_14 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1x4x1x512 .f32 :=
  View.canon [⟨r0_23, k0_pay4 (k0_pay20 (k0_pay14 (k0_pay13 (View.ld x3 r0_5))) (k0_pay15 (View.ld x4 r0_5)) (k0_pay16 (View.ld x0 r0_6) (View.ld x1 r0_7)) k0_pay17 (View.ld x2 r0_9))⟩,
    ⟨r0_21, k0_pay1 (k0_pay38 (k0_pay20 (k0_pay14 (k0_pay13 (View.ld x3 r0_5))) (k0_pay15 (View.ld x4 r0_5)) (k0_pay16 (View.ld x0 r0_6) (View.ld x1 r0_7)) k0_pay17 (View.ld x2 r0_9)))⟩,
    ⟨r0_19, k0_pay35 (k0_pay20 (k0_pay14 (k0_pay13 (View.ld x3 r0_5))) (k0_pay15 (View.ld x4 r0_5)) (k0_pay16 (View.ld x0 r0_6) (View.ld x1 r0_7)) k0_pay17 (View.ld x2 r0_9))⟩,
    ⟨r0_17, k0_pay31 (k0_pay20 (k0_pay14 (k0_pay13 (View.ld x3 r0_5))) (k0_pay15 (View.ld x4 r0_5)) (k0_pay16 (View.ld x0 r0_6) (View.ld x1 r0_7)) k0_pay17 (View.ld x2 r0_9))⟩]

theorem cover0_14 (p0 : Vec F S1x1x1x512 .f32) (p1 : Vec F S1x1x1x512 .f32) (p2 : Vec F S1x1x1x512 .f32) (p3 : Vec F S1x1x1x512 .f32) (y : S1x4x1x512.Idx) :
    ∃ pc ∈ ([⟨r0_23, p0⟩, ⟨r0_21, p1⟩, ⟨r0_19, p2⟩, ⟨r0_17, p3⟩] : List (View.Piece (Elt F) S1x4x1x512 .f32)), y ∈ pc.1.set :=
  View.cover_of_tiled [⟨r0_23, p0⟩, ⟨r0_21, p1⟩, ⟨r0_19, p2⟩, ⟨r0_17, p3⟩] S1x1x1x512.size (by rfl) y

def out0_15 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1x512x1024 .f32 :=
  View.canon [⟨r0_14, k0_pay27 (k0_pay26 (k0_pay16 (View.ld x0 r0_6) (View.ld x1 r0_7)) (View.ld x2 r0_10))⟩]

theorem cover0_15 (p0 : Vec F S1x512x1024 .f32) (y : S1x512x1024.Idx) :
    ∃ pc ∈ ([⟨r0_14, p0⟩] : List (View.Piece (Elt F) S1x512x1024 .f32)), y ∈ pc.1.set :=
  View.cover_of_tiled [⟨r0_14, p0⟩] S1x512x1024.size (by rfl) y

def out0_16 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1x4x512x256 .bf16 :=
  View.canon [⟨r0_22, k0_pay3 (k0_pay21 (k0_pay16 (View.ld x0 r0_6) (View.ld x1 r0_7)) (View.ld x2 r0_10))⟩,
    ⟨r0_20, k0_pay37 (k0_pay21 (k0_pay16 (View.ld x0 r0_6) (View.ld x1 r0_7)) (View.ld x2 r0_10))⟩,
    ⟨r0_18, k0_pay34 (k0_pay33 (k0_pay21 (k0_pay16 (View.ld x0 r0_6) (View.ld x1 r0_7)) (View.ld x2 r0_10)))⟩,
    ⟨r0_16, k0_pay30 (k0_pay21 (k0_pay16 (View.ld x0 r0_6) (View.ld x1 r0_7)) (View.ld x2 r0_10))⟩]

theorem cover0_16 (p0 : Vec F S1x1x512x256 .bf16) (p1 : Vec F S1x1x512x256 .bf16) (p2 : Vec F S1x1x512x256 .bf16) (p3 : Vec F S1x1x512x256 .bf16) (y : S1x4x512x256.Idx) :
    ∃ pc ∈ ([⟨r0_22, p0⟩, ⟨r0_20, p1⟩, ⟨r0_18, p2⟩, ⟨r0_16, p3⟩] : List (View.Piece (Elt F) S1x4x512x256 .bf16)), y ∈ pc.1.set :=
  View.cover_of_tiled [⟨r0_22, p0⟩, ⟨r0_20, p1⟩, ⟨r0_18, p2⟩, ⟨r0_16, p3⟩] S1x1x512x256.size (by rfl) y

def out0_17 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1024x512 .f32 :=
  View.canon [⟨r0_15, k0_pay22 (k0_pay16 (View.ld x0 r0_6) (View.ld x1 r0_7)) (View.ld x2 r0_11)⟩]

theorem cover0_17 (p0 : Vec F S1024x512 .f32) (y : S1024x512.Idx) :
    ∃ pc ∈ ([⟨r0_15, p0⟩] : List (View.Piece (Elt F) S1024x512 .f32)), y ∈ pc.1.set :=
  View.cover_of_tiled [⟨r0_15, p0⟩] S1024x512.size (by rfl) y

def out0_18 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1024x1024 .bf16 :=
  View.canon [⟨r0_6, k0_pay5 (k0_pay23 (k0_pay16 (View.ld x0 r0_6) (View.ld x1 r0_7)) (View.ld x2 r0_12))⟩]

theorem cover0_18 (p0 : Vec F S1024x1024 .bf16) (y : S1024x1024.Idx) :
    ∃ pc ∈ ([⟨r0_6, p0⟩] : List (View.Piece (Elt F) S1024x1024 .bf16)), y ∈ pc.1.set :=
  View.cover_of_tiled [⟨r0_6, p0⟩] S1024x1024.size (by rfl) y

def out0_19 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S1024x1024 .bf16 :=
  View.canon [⟨r0_6, k0_pay6 (k0_pay24 (k0_pay16 (View.ld x0 r0_6) (View.ld x1 r0_7)) (View.ld x2 r0_13))⟩]

theorem cover0_19 (p0 : Vec F S1024x1024 .bf16) (y : S1024x1024.Idx) :
    ∃ pc ∈ ([⟨r0_6, p0⟩] : List (View.Piece (Elt F) S1024x1024 .bf16)), y ∈ pc.1.set :=
  View.cover_of_tiled [⟨r0_6, p0⟩] S1024x1024.size (by rfl) y

def out0_20 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S32x1024 .bf16 :=
  View.canon [⟨r0_0, k0_pay7 (View.ld x5 r0_0)⟩]

theorem cover0_20 (p0 : Vec F S32x1024 .bf16) (y : S32x1024.Idx) :
    ∃ pc ∈ ([⟨r0_0, p0⟩] : List (View.Piece (Elt F) S32x1024 .bf16)), y ∈ pc.1.set :=
  View.cover_of_tiled [⟨r0_0, p0⟩] S32x1024.size (by rfl) y

def out0_21 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S32x512 .bf16 :=
  View.canon [⟨r0_1, k0_pay8 (View.ld x6 r0_1)⟩]

theorem cover0_21 (p0 : Vec F S32x512 .bf16) (y : S32x512.Idx) :
    ∃ pc ∈ ([⟨r0_1, p0⟩] : List (View.Piece (Elt F) S32x512 .bf16)), y ∈ pc.1.set :=
  View.cover_of_tiled [⟨r0_1, p0⟩] S32x512.size (by rfl) y

def out0_22 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S32x1024 .bf16 :=
  View.canon [⟨r0_0, k0_pay9 (View.ld x7 r0_0)⟩]

theorem cover0_22 (p0 : Vec F S32x1024 .bf16) (y : S32x1024.Idx) :
    ∃ pc ∈ ([⟨r0_0, p0⟩] : List (View.Piece (Elt F) S32x1024 .bf16)), y ∈ pc.1.set :=
  View.cover_of_tiled [⟨r0_0, p0⟩] S32x1024.size (by rfl) y

def out0_23 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S64x1024 .bf16 :=
  View.canon [⟨r0_2, k0_pay10 (View.ld x8 r0_2)⟩]

theorem cover0_23 (p0 : Vec F S64x1024 .bf16) (y : S64x1024.Idx) :
    ∃ pc ∈ ([⟨r0_2, p0⟩] : List (View.Piece (Elt F) S64x1024 .bf16)), y ∈ pc.1.set :=
  View.cover_of_tiled [⟨r0_2, p0⟩] S64x1024.size (by rfl) y

def out0_24 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S64x5632 .bf16 :=
  View.canon [⟨r0_3, k0_pay11 (View.ld x9 r0_3)⟩]

theorem cover0_24 (p0 : Vec F S64x5632 .bf16) (y : S64x5632.Idx) :
    ∃ pc ∈ ([⟨r0_3, p0⟩] : List (View.Piece (Elt F) S64x5632 .bf16)), y ∈ pc.1.set :=
  View.cover_of_tiled [⟨r0_3, p0⟩] S64x5632.size (by rfl) y

def out0_25 (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) : Vec F S176x1024 .bf16 :=
  View.canon [⟨r0_4, k0_pay12 (View.ld x10 r0_4)⟩]

theorem cover0_25 (p0 : Vec F S176x1024 .bf16) (y : S176x1024.Idx) :
    ∃ pc ∈ ([⟨r0_4, p0⟩] : List (View.Piece (Elt F) S176x1024 .bf16)), y ∈ pc.1.set :=
  View.cover_of_tiled [⟨r0_4, p0⟩] S176x1024.size (by rfl) y

set_option maxHeartbeats 2000000 in
theorem sound_kernel (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S32x1024 .f32) (harg7 : arg7.IsWhole) (arg8 : Memref sig .tc .vmem S32x512 .f32) (harg8 : arg8.IsWhole) (arg9 : Memref sig .tc .vmem S32x1024 .f32) (harg9 : arg9.IsWhole) (arg10 : Memref sig .tc .vmem S64x1024 .f32) (harg10 : arg10.IsWhole) (arg11 : Memref sig .tc .vmem S64x5632 .f32) (harg11 : arg11.IsWhole) (arg12 : Memref sig .tc .vmem S176x1024 .f32) (harg12 : arg12.IsWhole) (arg13 : Memref sig .tc .vmem S1x4x512x256 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1x4x1x512 .f32) (harg16 : arg16.IsWhole) (arg17 : Memref sig .tc .vmem S1x512x1024 .f32) (harg17 : arg17.IsWhole) (arg18 : Memref sig .tc .vmem S1x4x512x256 .bf16) (harg18 : arg18.IsWhole) (arg19 : Memref sig .tc .vmem S1024x512 .f32) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S32x1024 .bf16) (harg22 : arg22.IsWhole) (arg23 : Memref sig .tc .vmem S32x512 .bf16) (harg23 : arg23.IsWhole) (arg24 : Memref sig .tc .vmem S32x1024 .bf16) (harg24 : arg24.IsWhole) (arg25 : Memref sig .tc .vmem S64x1024 .bf16) (harg25 : arg25.IsWhole) (arg26 : Memref sig .tc .vmem S64x5632 .bf16) (harg26 : arg26.IsWhole) (arg27 : Memref sig .tc .vmem S176x1024 .bf16) (harg27 : arg27.IsWhole)
    (x0 : Vec F S1024x1024 .f32) (x1 : Vec F S1x1024 .f32) (x2 : Vec F S1024x4096 .bf16) (x3 : Vec F S1024x128 .f32) (x4 : Vec F S1024x128 .f32) (x5 : Vec F S32x1024 .f32) (x6 : Vec F S32x512 .f32) (x7 : Vec F S32x1024 .f32) (x8 : Vec F S64x1024 .f32) (x9 : Vec F S64x5632 .f32) (x10 : Vec F S176x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out0_11 x0 x1 x2 x3 x4 x5 x6 x7 x8 x9 x10) ∗ owns (c : Thread nD τ) arg14 fullShare (out0_12 x0 x1 x2 x3 x4 x5 x6 x7 x8 x9 x10) ∗ owns (c : Thread nD τ) arg15 fullShare (out0_13 x0 x1 x2 x3 x4 x5 x6 x7 x8 x9 x10) ∗ owns (c : Thread nD τ) arg16 fullShare (out0_14 x0 x1 x2 x3 x4 x5 x6 x7 x8 x9 x10) ∗ owns (c : Thread nD τ) arg17 fullShare (out0_15 x0 x1 x2 x3 x4 x5 x6 x7 x8 x9 x10) ∗ owns (c : Thread nD τ) arg18 fullShare (out0_16 x0 x1 x2 x3 x4 x5 x6 x7 x8 x9 x10) ∗ owns (c : Thread nD τ) arg19 fullShare (out0_17 x0 x1 x2 x3 x4 x5 x6 x7 x8 x9 x10) ∗ owns (c : Thread nD τ) arg20 fullShare (out0_18 x0 x1 x2 x3 x4 x5 x6 x7 x8 x9 x10) ∗ owns (c : Thread nD τ) arg21 fullShare (out0_19 x0 x1 x2 x3 x4 x5 x6 x7 x8 x9 x10) ∗ owns (c : Thread nD τ) arg22 fullShare (out0_20 x0 x1 x2 x3 x4 x5 x6 x7 x8 x9 x10) ∗ owns (c : Thread nD τ) arg23 fullShare (out0_21 x0 x1 x2 x3 x4 x5 x6 x7 x8 x9 x10) ∗ owns (c : Thread nD τ) arg24 fullShare (out0_22 x0 x1 x2 x3 x4 x5 x6 x7 x8 x9 x10) ∗ owns (c : Thread nD τ) arg25 fullShare (out0_23 x0 x1 x2 x3 x4 x5 x6 x7 x8 x9 x10) ∗ owns (c : Thread nD τ) arg26 fullShare (out0_24 x0 x1 x2 x3 x4 x5 x6 x7 x8 x9 x10) ∗ owns (c : Thread nD τ) arg27 fullShare (out0_25 x0 x1 x2 x3 x4 x5 x6 x7 x8 x9 x10)) -∗ K ⟨⟩))
      ⊢ wp frame (wpE (defs₀ (F := F)) Variants.none c none) E (cc0_inproj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_inproj_prompt_eq_skeleton]; unfold cc0_inproj_prompt_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _ _ _ _)
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _ _ _ _)
  isplitl [H15]
  · iexists _; isplitr
    swap; · iexact H15
    ipureintro
    exact View.read_writes_eq_canon _ _ _ (cover0_15 _)
  isplitl [H16]
  · iexists _; isplitr
    swap; · iexact H16
    ipureintro
    exact View.read_writes_eq_canon _ _ _ (cover0_16 _ _ _ _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  iexists _; isplitr
  swap; · iexact H25
  ipureintro
  exact View.read_writes_eq_canon _ _ _ (cover0_25 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem body_obligation (c : Dev nD) : BodyObligation (dats (F := F) m 0 c) (defs₀ (F := F)) Variants.none () Set.univ := fun t => by
  rw [bigSep_W0, bigSep_W0]
  exact sound_body m c t

set_option backward.isDefEq.respectTransparency.types false in
set_option maxHeartbeats 2000000 in
/-- @main terminates, with the windows' arrays as the proof data say and no semaphore raised. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.InProjIdeal.Body

end
-- ==== Proof.InProjFrame.lean ====
/- The prompt projection runs, keeps its arguments and leaves no signal behind. -/
module

public import proofs.«01_k».proof.Defs
public import proofs.«01_k».proof.Proof.BodyInProj
public import proofs.«01_k».proof.Proof.BodyInProjIdeal

@[expose] public section

set_option maxRecDepth 16384

noncomputable section

namespace Cert.Proof

open Idealize.ShloMosaic Idealize.SL.Sem

set_option maxHeartbeats 2000000 in
/-- The kernel keeps its arguments and leaves every semaphore at zero. -/
theorem inproj_frame : Cert.quiescent_InProj := by
  intro m g _
  refine θ_run_and ?_ ((θ_run Cert.InProj.defs _ _).mono (fun _ h => h.2) (Cert.InProj.Body.run_main_quiescent m g))
  run_from Cert.InProj.Body.run_main m g

set_option maxHeartbeats 2000000 in
/-- So does its idealization. -/
theorem inproj_ideal_frame : Cert.quiescent_InProjIdeal := by
  intro m g _
  refine θ_run_and ?_ ((θ_run Cert.InProjIdeal.defs _ _).mono (fun _ h => h.2) (Cert.InProjIdeal.Body.run_main_quiescent m g))
  run_from Cert.InProjIdeal.Body.run_main m g

end Cert.Proof

end
-- ==== Proof.Rope.lean ====
/- The input projection's row formulas: the normed row times the weight, and a row of heads turned by its position's
   angles. -/
module

public import proofs.«01_k».proof.Proof.Rows

@[expose] public section

noncomputable section

open Idealize.ShloMosaic

namespace Rows

/-- A normed row times the input weight. -/
def proj (x g : Fin 1024 → EReal) (w : Fin 1024 → Fin 4096 → EReal) (j : Fin 4096) : EReal := ∑ k, rms x g k * w k j

/-- The angle of frequency `i` at position `p`. -/
def angle (p : EReal) (i : Fin 32) : EReal :=
  p * Ideal.pow (Ideal.ofBits .f32 0x461C4000#32)
    (Ideal.div (Ideal.ofBits .f32 0xC0000000#32 * (((BitVec.ofNat 32 i.val).toInt : ℝ) : EReal)) (Ideal.ofBits .f32 0x42800000#32))

/-- Eight heads of 64 columns, each pair `(i, i + 32)` of a head's columns turned by the angle `a i`. -/
def turned (t : Fin 512 → EReal) (a : Fin 32 → EReal) (j : Fin 512) : EReal :=
  if j.val % 64 < 32 then
    t j * Ideal.cos (a ⟨j.val % 32, by omega⟩) - t ⟨(j.val + 32) % 512, by omega⟩ * Ideal.sin (a ⟨j.val % 32, by omega⟩)
  else
    t j * Ideal.cos (a ⟨j.val % 32, by omega⟩) + t ⟨(j.val + 480) % 512, by omega⟩ * Ideal.sin (a ⟨j.val % 32, by omega⟩)

/-- The same by two 128-lane tables: the row times the cosines, its partner times the signed sines. -/
def spun (t : Fin 512 → EReal) (c s : Fin 128 → EReal) (j : Fin 512) : EReal :=
  t j * c ⟨j.val % 128, by omega⟩
    + (if j.val % 64 < 32 then t ⟨(j.val + 32) % 512, by omega⟩ else t ⟨(j.val + 480) % 512, by omega⟩)
      * s ⟨j.val % 128, by omega⟩

/-- The tables of the angles `a` turn a row as the angles do. -/
theorem spun_eq_turned (t : Fin 512 → EReal) (c s : Fin 128 → EReal) (a : Fin 32 → EReal)
    (hc : ∀ l, c l = Ideal.cos (a ⟨l.val % 32, by omega⟩))
    (hs : ∀ l, s l = if l.val % 64 < 32 then -Ideal.sin (a ⟨l.val % 32, by omega⟩) else Ideal.sin (a ⟨l.val % 32, by omega⟩))
    (j : Fin 512) : spun t c s j = turned t a j := by
  have e : (⟨j.val % 128 % 32, by omega⟩ : Fin 32) = ⟨j.val % 32, by omega⟩ := Fin.ext (by show j.val % 128 % 32 = j.val % 32; omega)
  have h64 : j.val % 128 % 64 = j.val % 64 := by omega
  simp only [spun, turned, hc, hs, e, h64]
  split_ifs with h
  · rw [mul_neg, sub_eq_add_neg]
  · rfl

end Rows

end
-- ==== Proof.InProjPay.lean ====
/- The prompt projection's payloads read at one entry of a block, as row formulas of the block's own row. -/
module

public import proofs.«01_k».proof.Proof.Gen.InProjIdeal.Skeleton
public import proofs.«01_k».proof.Proof.Rope

@[expose] public section

set_option maxRecDepth 16384

noncomputable section

open Idealize.ShloMosaic Idealize.ShloMosaic.TcCoe Idealize.SL.Sem

namespace Cert.InProjIdeal.Pay

open Cert.InProjIdeal Cert.InProjIdeal.Gen

theorem normed_at (x : FVec Ideal S1024x1024 .f32) (g : FVec Ideal S1x1024 .f32) (r k : Fin 1024) :
    k0_pay16 (F := Ideal) x g (ix2 r k) = Rows.rms (fun l => x (ix2 r l)) (fun l => g (ix2 0 l)) k := by
  pointwise [k0_pay16, Rows.rms]

/-- The mask of the columns that stand in the first half of their head. -/
theorem mask_at : ∀ j : Fin 512, k0_pay17 (ix2 0 j) = BitVec.ofBool (decide (j.val % 64 < 32)) := by
  intro j
  pointwise [k0_pay17]
  revert j
  decide +kernel

theorem cos_at (c : FVec Ideal S1024x128 .f32) (r : Fin 1024) (j : Fin 512) :
    k0_pay14 (F := Ideal) (k0_pay13 (F := Ideal) c) (ix2 r j) = c (ix2 r ⟨j.val % 128, by omega⟩) := by
  pointwise [k0_pay14, k0_pay13]
  split_ifs <;> exact congrArg c ((ix2_inj ..).2 ⟨rfl, Fin.ext (by simp only; omega)⟩)

theorem sin_at (c : FVec Ideal S1024x128 .f32) (r : Fin 1024) (j : Fin 512) :
    k0_pay15 (F := Ideal) c (ix2 r j) = c (ix2 r ⟨j.val % 128, by omega⟩) := by
  pointwise [k0_pay15]
  split_ifs <;> exact congrArg c ((ix2_inj ..).2 ⟨rfl, Fin.ext (by simp only; omega)⟩)

/-- A row times the tables' columns, its rolled partner times the others: the two rolls meet at the mask. -/
theorem spun_at (v : FVec Ideal S1024x512 .f32) (c s : FVec Ideal S1024x128 .f32) (r : Fin 1024) (j : Fin 512) :
    k0_pay19 (F := Ideal) (k0_pay14 (F := Ideal) (k0_pay13 (F := Ideal) c)) (k0_pay15 (F := Ideal) s) k0_pay17 v (ix2 r j)
      = Rows.spun (fun l => v (ix2 r l)) (fun l => c (ix2 r l)) (fun l => s (ix2 r l)) j * Ideal.ofBits .f32 0x3E38AA3B#32 := by
  have e1 : (j.val + 512 - 480) % 512 = (j.val + 32) % 512 := by omega
  have e2 : (j.val + 512 - 32) % 512 = (j.val + 480) % 512 := by omega
  pointwise [k0_pay19, cos_at, sin_at, mask_at, Rows.spun, e1, e2]

/-- The queries: the turned products, scaled. -/
theorem q_at (x : FVec Ideal S1024x1024 .f32) (g : FVec Ideal S1x1024 .f32) (w : FVec Ideal S1024x512 .bf16)
    (c s : FVec Ideal S1024x128 .f32) (r : Fin 1024) (j : Fin 512) :
    k0_pay19 (F := Ideal) (k0_pay14 (F := Ideal) (k0_pay13 (F := Ideal) c)) (k0_pay15 (F := Ideal) s) k0_pay17
        (k0_pay18 (F := Ideal) x g w) (ix2 r j)
      = Rows.spun (fun j => ∑ k, Rows.rms (fun l => x (ix2 r l)) (fun l => g (ix2 0 l)) k * w (ix2 k j))
          (fun l => c (ix2 r l)) (fun l => s (ix2 r l)) j * Ideal.ofBits .f32 0x3E38AA3B#32 := by
  rw [spun_at]
  pointwise [k0_pay18, normed_at]

/-- The keys: the turned products. -/
theorem k_at (x : FVec Ideal S1024x1024 .f32) (g : FVec Ideal S1x1024 .f32) (w : FVec Ideal S1024x512 .bf16)
    (c s : FVec Ideal S1024x128 .f32) (r : Fin 1024) (j : Fin 512) :
    k0_pay20 (F := Ideal) (k0_pay14 (F := Ideal) (k0_pay13 (F := Ideal) c)) (k0_pay15 (F := Ideal) s)
        (k0_pay16 (F := Ideal) x g) k0_pay17 w (ix2 r j)
      = Rows.spun (fun j => ∑ k, Rows.rms (fun l => x (ix2 r l)) (fun l => g (ix2 0 l)) k * w (ix2 k j))
          (fun l => c (ix2 r l)) (fun l => s (ix2 r l)) j := by
  have e1 : (j.val + 512 - 480) % 512 = (j.val + 32) % 512 := by omega
  have e2 : (j.val + 512 - 32) % 512 = (j.val + 480) % 512 := by omega
  pointwise [k0_pay20, cos_at, sin_at, mask_at, normed_at, Rows.spun, e1, e2]

/-- The values, and the recurrence's inputs: the products alone. -/
theorem v_at (x : FVec Ideal S1024x1024 .f32) (g : FVec Ideal S1x1024 .f32) (w : FVec Ideal S1024x512 .bf16)
    (r : Fin 1024) (j : Fin 512) :
    k0_pay21 (F := Ideal) (k0_pay16 (F := Ideal) x g) w (ix2 r j)
      = ∑ k, Rows.rms (fun l => x (ix2 r l)) (fun l => g (ix2 0 l)) k * w (ix2 k j) := by
  pointwise [k0_pay21, normed_at]

theorem u_at (x : FVec Ideal S1024x1024 .f32) (g : FVec Ideal S1x1024 .f32) (w : FVec Ideal S1024x512 .bf16)
    (r : Fin 1024) (j : Fin 512) :
    k0_pay22 (F := Ideal) (k0_pay16 (F := Ideal) x g) w (ix2 r j)
      = ∑ k, Rows.rms (fun l => x (ix2 r l)) (fun l => g (ix2 0 l)) k * w (ix2 k j) := by
  pointwise [k0_pay22, normed_at]

/-- The two gates. -/
theorem ga_at (x : FVec Ideal S1024x1024 .f32) (g : FVec Ideal S1x1024 .f32) (w : FVec Ideal S1024x1024 .bf16)
    (r j : Fin 1024) :
    k0_pay23 (F := Ideal) (k0_pay16 (F := Ideal) x g) w (ix2 r j)
      = Ideal.logistic (∑ k, Rows.rms (fun l => x (ix2 r l)) (fun l => g (ix2 0 l)) k * w (ix2 k j)) := by
  pointwise [k0_pay23, normed_at]

theorem gs_at (x : FVec Ideal S1024x1024 .f32) (g : FVec Ideal S1x1024 .f32) (w : FVec Ideal S1024x1024 .bf16)
    (r j : Fin 1024) :
    k0_pay24 (F := Ideal) (k0_pay16 (F := Ideal) x g) w (ix2 r j)
      = Ideal.logistic (∑ k, Rows.rms (fun l => x (ix2 r l)) (fun l => g (ix2 0 l)) k * w (ix2 k j)) := by
  pointwise [k0_pay24, normed_at]

end Cert.InProjIdeal.Pay

end
-- ==== Proof.InProjOut.lean ====
/- The prompt projection's output blocks read at an entry, as row formulas of the block's own rows. -/
module

public import proofs.«01_k».proof.Proof.BodyInProjIdeal
public import Idealize.ShloMosaic.Lib.Claim
public import proofs.«01_k».proof.Proof.InProjPay

@[expose] public section

set_option maxRecDepth 16384

noncomputable section

open Idealize.ShloMosaic Idealize.ShloMosaic.TcCoe Idealize.SL.Sem

namespace Cert.InProjIdeal.Pay

open Cert.InProjIdeal Cert.InProjIdeal.Gen Cert.InProjIdeal.Body

variable (x0 : FVec Ideal S1024x1024 .f32) (x1 : FVec Ideal S1x1024 .f32) (x2 : FVec Ideal S1024x4096 .bf16)
    (x3 x4 : FVec Ideal S1024x128 .f32) (x5 : FVec Ideal S32x1024 .f32) (x6 : FVec Ideal S32x512 .f32) (x7 : FVec Ideal S32x1024 .f32)
    (x8 : FVec Ideal S64x1024 .f32) (x9 : FVec Ideal S64x5632 .f32) (x10 : FVec Ideal S176x1024 .f32)

/-- Row `r` of the block, projected. -/
abbrev brow (r : Fin 1024) (j : Fin 4096) : EReal :=
  Rows.proj (fun l => x0 (ix2 r l)) (fun l => x1 (ix2 0 l)) (fun k l => x2 (ix2 k l)) j

/-- Row `r` of the block, its columns from `o` on turned by the block's tables. -/
abbrev bspun (o : Nat) (ho : o + 512 ≤ 4096) (r : Fin 1024) (j : Fin 512) : EReal :=
  Rows.spun (fun l => brow x0 x1 x2 r ⟨o + l.val, by omega⟩) (fun l => x3 (ix2 r l)) (fun l => x4 (ix2 r l)) j

/-- Four blocks of queries. -/
theorem out11_at (n : Fin 4) (j : Fin 512) (s : Fin 256) :
    out0_11 (F := Ideal) x0 x1 x2 x3 x4 x5 x6 x7 x8 x9 x10 (ix4 0 n j s)
      = bspun x0 x1 x2 x3 x4 0 (by omega) ⟨n.val * 256 + s.val, by omega⟩ j * Ideal.ofBits .f32 0x3E38AA3B#32 := by
  unfold out0_11
  generalize hQ : k0_pay19 (F := Ideal) _ _ _ _ = Q
  refine Eq.trans (b := Q (ix2 ⟨n.val * 256 + s.val, by omega⟩ j)) ?_ ?_
  · canon_tiles x h
    all_goals (change n.val = _ at h1; change j.val = _ at h2; change s.val = _ at h3; open_payloads; pointwise; blk_ext)
  · subst hQ
    rw [q_at]
    pointwise [bspun, brow, Rows.proj, Nat.zero_add]

/-- Four blocks of values. -/
theorem out16_at (n : Fin 4) (j : Fin 512) (s : Fin 256) :
    out0_16 (F := Ideal) x0 x1 x2 x3 x4 x5 x6 x7 x8 x9 x10 (ix4 0 n j s)
      = brow x0 x1 x2 ⟨n.val * 256 + s.val, by omega⟩ ⟨1024 + j.val, by omega⟩ := by
  unfold out0_16
  generalize hQ : k0_pay21 (F := Ideal) _ _ = Q
  refine Eq.trans (b := Q (ix2 ⟨n.val * 256 + s.val, by omega⟩ j)) ?_ ?_
  · canon_tiles x h
    all_goals (change n.val = _ at h1; change j.val = _ at h2; change s.val = _ at h3; open_payloads; pointwise; blk_ext)
  · subst hQ
    rw [v_at]
    pointwise [bspun, brow, Rows.proj, Nat.zero_add]

/-- The means of four blocks of keys. -/
theorem out14_at (n : Fin 4) (j : Fin 512) :
    out0_14 (F := Ideal) x0 x1 x2 x3 x4 x5 x6 x7 x8 x9 x10 (ix4 0 n 0 j)
      = Ideal.div (∑ s : Fin 256, bspun x0 x1 x2 x3 x4 512 (by omega) ⟨n.val * 256 + s.val, by omega⟩ j) (Ideal.ofBits .f32 0x43800000#32) := by
  unfold out0_14
  generalize hQ : k0_pay20 (F := Ideal) _ _ _ _ _ = Q
  refine Eq.trans (b := Ideal.div (∑ s : Fin 256, Q (ix2 ⟨n.val * 256 + s.val, by omega⟩ j)) (Ideal.ofBits .f32 0x43800000#32)) ?_ ?_
  · canon_tiles x h
    all_goals
      change n.val = _ at h1
      change j.val = _ at h3
      open_payloads
      pointwise
      refine congrArg (fun e => Ideal.div e _) (Finset.sum_congr rfl fun s _ => ?_)
      blk_ext
  · subst hQ
    pointwise [k_at, bspun, brow, Rows.proj]

theorem out12_at (j : Fin 512) (r : Fin 1024) :
    out0_12 (F := Ideal) x0 x1 x2 x3 x4 x5 x6 x7 x8 x9 x10 (ix3 0 j r) = bspun x0 x1 x2 x3 x4 512 (by omega) r j := by
  unfold out0_12
  frame_out
  pointwise [k0_pay25, k_at, bspun, brow, Rows.proj]

theorem out13_at (r : Fin 1024) (j : Fin 512) :
    out0_13 (F := Ideal) x0 x1 x2 x3 x4 x5 x6 x7 x8 x9 x10 (ix2 r j) = bspun x0 x1 x2 x3 x4 512 (by omega) r j := by
  unfold out0_13
  frame_out
  pointwise [k0_pay28, k_at, bspun, brow, Rows.proj]

theorem out15_at (j : Fin 512) (r : Fin 1024) :
    out0_15 (F := Ideal) x0 x1 x2 x3 x4 x5 x6 x7 x8 x9 x10 (ix3 0 j r) = brow x0 x1 x2 r ⟨1024 + j.val, by omega⟩ := by
  unfold out0_15
  frame_out
  pointwise [k0_pay27, k0_pay26, v_at, brow, Rows.proj]

theorem out17_at (r : Fin 1024) (j : Fin 512) :
    out0_17 (F := Ideal) x0 x1 x2 x3 x4 x5 x6 x7 x8 x9 x10 (ix2 r j) = brow x0 x1 x2 r ⟨1536 + j.val, by omega⟩ := by
  unfold out0_17
  frame_out
  pointwise [u_at, brow, Rows.proj]

theorem out18_at (r j : Fin 1024) :
    out0_18 (F := Ideal) x0 x1 x2 x3 x4 x5 x6 x7 x8 x9 x10 (ix2 r j) = Ideal.logistic (brow x0 x1 x2 r ⟨2048 + j.val, by omega⟩) := by
  unfold out0_18
  frame_out
  pointwise [k0_pay5, ga_at, brow, Rows.proj]

theorem out19_at (r j : Fin 1024) :
    out0_19 (F := Ideal) x0 x1 x2 x3 x4 x5 x6 x7 x8 x9 x10 (ix2 r j) = Ideal.logistic (brow x0 x1 x2 r ⟨3072 + j.val, by omega⟩) := by
  unfold out0_19
  frame_out
  pointwise [k0_pay6, gs_at, brow, Rows.proj]

/-! The six casts. -/

theorem out20_at (y : S32x1024.Idx) : out0_20 (F := Ideal) x0 x1 x2 x3 x4 x5 x6 x7 x8 x9 x10 y = x5 y := by
  unfold out0_20
  frame_out
  idx_vars y
  pointwise [k0_pay7]

theorem out21_at (y : S32x512.Idx) : out0_21 (F := Ideal) x0 x1 x2 x3 x4 x5 x6 x7 x8 x9 x10 y = x6 y := by
  unfold out0_21
  frame_out
  idx_vars y
  pointwise [k0_pay8]

theorem out22_at (y : S32x1024.Idx) : out0_22 (F := Ideal) x0 x1 x2 x3 x4 x5 x6 x7 x8 x9 x10 y = x7 y := by
  unfold out0_22
  frame_out
  idx_vars y
  pointwise [k0_pay9]

theorem out23_at (y : S64x1024.Idx) : out0_23 (F := Ideal) x0 x1 x2 x3 x4 x5 x6 x7 x8 x9 x10 y = x8 y := by
  unfold out0_23
  frame_out
  idx_vars y
  pointwise [k0_pay10]

theorem out24_at (y : S64x5632.Idx) : out0_24 (F := Ideal) x0 x1 x2 x3 x4 x5 x6 x7 x8 x9 x10 y = x9 y := by
  unfold out0_24
  frame_out
  idx_vars y
  pointwise [k0_pay11]

theorem out25_at (y : S176x1024.Idx) : out0_25 (F := Ideal) x0 x1 x2 x3 x4 x5 x6 x7 x8 x9 x10 y = x10 y := by
  unfold out0_25
  frame_out
  idx_vars y
  pointwise [k0_pay12]

end Cert.InProjIdeal.Pay

end
-- ==== Proof.InProjRef.lean ====
/- The reference of the prompt's input projection, cut at its own intermediate arrays, each read at an entry by a row
   formula of the entry's token. -/
module

public import proofs.«01_k».proof.Proof.Gen.InProjRefIdeal
public import Idealize.ShloMosaic.Lib.Claim
public import proofs.«01_k».proof.Proof.Rope

@[expose] public section

set_option maxRecDepth 16384

noncomputable section

open Idealize.ShloMosaic Idealize.ShloMosaic.TcCoe Idealize.SL.Sem

namespace Cert.InProjRefIdeal.Rows

open Cert.InProjRefIdeal Cert.InProjRefIdeal.Gen

/-! ## The host's intermediate arrays -/

/-- The normed rows times the weight. -/
def PROJ (x : FVec Ideal S4x4096x1024 .f32) (g : FVec Ideal S1x1024 .f32) (w : FVec Ideal S1024x4096 .bf16) :
    FVec Ideal S4x4096x4096 .f32 :=
  Host.dotGeneral dot_S4x4096x1024_S1024x4096_S4x4096x4096_2_0_01_1_n_n none
    (mulf (mulf x (broadcastInDim S4x4096x1024 ![0, 1, 2] bcast_S4x4096x1_S4x4096x1024_0_1_2
      (Host.rsqrt (addf (Host.divf
        (broadcastInDim S4x4096x1 ![0, 1] bcast_S4x4096_S4x4096x1_0_1
          (Host.reduceAdd (mulf x x) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2
        (broadcastInDim S1x1x1024 ![2] bcast_S1024_S1x1x1024_2 (shapeCast _ g shapeCasts_S1x1024_S1024))))
    (extf .f32 w bitsLt_bf16_f32)

/-- The angles, by position and frequency. -/
def ANG : FVec Ideal S4096x32 .f32 :=
  mulf (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (mulf (broadcastInDim S32 ![] bcast_S_S32 (constant S_ .f32 0xC0000000#32))
            (sitofp .f32 (iotaInDim S32 32 0)))
          (broadcastInDim S32 ![] bcast_S_S32 (constant S_ .f32 0x42800000#32))))))

/-- An angle table, for every sequence and head. -/
def ALL (a : FVec Ideal S4096x32 .f32) : FVec Ideal S4x4096x8x32 .f32 :=
  broadcastInDim S4x4096x8x32 ![0, 1, 2, 3] bcast_S1x4096x1x32_S4x4096x8x32_0_1_2_3
    (broadcastInDim S1x4096x1x32 ![1, 3] bcast_S4096x32_S1x4096x1x32_1_3 a)

/-- The heads turned by the angles of their positions. -/
def ROT (t : FVec Ideal S4x4096x8x64 .f32) : FVec Ideal S4x4096x8x64 .f32 :=
  concatenate S4x4096x8x64 3
    [⟨S4x4096x8x32, subf
        (mulf (extractStridedSlice S4x4096x8x32 ![0, 0, 0, 0] t slices_S4x4096x8x64_S4x4096x8x32_0_0_0_0) (ALL (Host.cos ANG)))
        (mulf (extractStridedSlice S4x4096x8x32 ![0, 0, 0, 32] t slices_S4x4096x8x64_S4x4096x8x32_0_0_0_32) (ALL (Host.sin ANG)))⟩,
     ⟨S4x4096x8x32, addf
        (mulf (extractStridedSlice S4x4096x8x32 ![0, 0, 0, 32] t slices_S4x4096x8x64_S4x4096x8x32_0_0_0_32) (ALL (Host.cos ANG)))
        (mulf (extractStridedSlice S4x4096x8x32 ![0, 0, 0, 0] t slices_S4x4096x8x64_S4x4096x8x32_0_0_0_0) (ALL (Host.sin ANG)))⟩]
    concatenates_S4x4096x8x32_S4x4096x8x32_S4x4096x8x64_d3

/-- The queries, keys and values by head. -/
def Q4 (p : FVec Ideal S4x4096x4096 .f32) : FVec Ideal S4x4096x8x64 .f32 :=
  ROT (shapeCast _ (extractStridedSlice S4x4096x512 ![0, 0, 0] p slices_S4x4096x4096_S4x4096x512_0_0_0) shapeCasts_S4x4096x512_S4x4096x8x64)
def K4 (p : FVec Ideal S4x4096x4096 .f32) : FVec Ideal S4x4096x8x64 .f32 :=
  ROT (shapeCast _ (extractStridedSlice S4x4096x512 ![0, 0, 512] p slices_S4x4096x4096_S4x4096x512_0_0_512) shapeCasts_S4x4096x512_S4x4096x8x64)
def V4 (p : FVec Ideal S4x4096x4096 .f32) : FVec Ideal S4x4096x8x64 .f32 :=
  shapeCast _ (extractStridedSlice S4x4096x512 ![0, 0, 1024] p slices_S4x4096x4096_S4x4096x512_0_0_1024) shapeCasts_S4x4096x512_S4x4096x8x64

/-- Heads by block, the block's positions innermost; by position, positions innermost; one row per token. -/
def BLOCKS (t : FVec Ideal S4x4096x8x64 .f32) : FVec Ideal S4x16x512x256 .bf16 :=
  truncf .bf16 (transpose S4x16x512x256 [0, 1, 3, 2] (shapeCast S4x16x256x512 t shapeCasts_S4x4096x8x64_S4x16x256x512)
    transposes_S4x16x256x512_S4x16x512x256_0_1_3_2) bitsLt_bf16_f32
def BYPOS (t : FVec Ideal S4x4096x8x64 .f32) : FVec Ideal S4x512x4096 .f32 :=
  shapeCast _ (transpose S4x8x64x4096 [0, 2, 3, 1] t transposes_S4x4096x8x64_S4x8x64x4096_0_2_3_1) shapeCasts_S4x8x64x4096_S4x512x4096
def FLAT (t : FVec Ideal S4x4096x8x64 .f32) : FVec Ideal S16384x512 .bf16 :=
  truncf .bf16 (shapeCast S16384x512 t shapeCasts_S4x4096x8x64_S16384x512) bitsLt_bf16_f32

/-- The mean of every block of 256 positions. -/
def MEANS (t : FVec Ideal S4x4096x8x64 .f32) : FVec Ideal S4x16x1x512 .f32 :=
  shapeCast _ (Host.divf
    (Host.reduceAdd (shapeCast S4x16x256x8x64 t shapeCasts_S4x4096x8x64_S4x16x256x8x64) (constant S_ .f32 0x00000000#32)
      reducesTo_S4x16x256x8x64_S4x16x8x64_d2 h_S_)
    (broadcastInDim S4x16x8x64 ![] bcast_S_S4x16x8x64 (constant S_ .f32 0x43800000#32))) shapeCasts_S4x16x8x64_S4x16x1x512

/-- The scaled queries. -/
def QS (t : FVec Ideal S4x4096x8x64 .f32) : FVec Ideal S4x4096x8x64 .f32 :=
  mulf t (broadcastInDim S4x4096x8x64 ![] bcast_S_S4x4096x8x64 (constant S_ .f32 0x3E38AA3B#32))

/-- The recurrence's inputs. -/
def U (p : FVec Ideal S4x4096x4096 .f32) : FVec Ideal S16384x512 .f32 :=
  shapeCast _ (extractStridedSlice S4x4096x512 ![0, 0, 1536] p slices_S4x4096x4096_S4x4096x512_0_0_1536) shapeCasts_S4x4096x512_S16384x512

/-- The logistic of a gate's columns, one row per token. -/
def GATE (t : FVec Ideal S4x4096x1024 .f32) : FVec Ideal S16384x1024 .bf16 :=
  truncf .bf16 (shapeCast S16384x1024 (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf t))))
    shapeCasts_S4x4096x1024_S16384x1024) bitsLt_bf16_f32
def GA (p : FVec Ideal S4x4096x4096 .f32) : FVec Ideal S16384x1024 .bf16 :=
  GATE (extractStridedSlice S4x4096x1024 ![0, 0, 2048] p slices_S4x4096x4096_S4x4096x1024_0_0_2048)
def GS (p : FVec Ideal S4x4096x4096 .f32) : FVec Ideal S16384x1024 .bf16 :=
  GATE (extractStridedSlice S4x4096x1024 ![0, 0, 3072] p slices_S4x4096x4096_S4x4096x1024_0_0_3072)

/-! ## Their entries -/

/-- The projected row of one token. -/
abbrev prow (x : FVec Ideal S4x4096x1024 .f32) (g : FVec Ideal S1x1024 .f32) (w : FVec Ideal S1024x4096 .bf16)
    (b : Fin 4) (p : Fin 4096) (j : Fin 4096) : EReal :=
  Rows.proj (fun l => x (ix3 b p l)) (fun l => g (ix2 0 l)) (fun k l => w (ix2 k l)) j

/-- The angles of one position. -/
abbrev ang (p : Fin 4096) : Fin 32 → EReal := Rows.angle (((BitVec.ofNat 32 p.val).toInt : ℝ) : EReal)

theorem proj_at (x : FVec Ideal S4x4096x1024 .f32) (g : FVec Ideal S1x1024 .f32) (w : FVec Ideal S1024x4096 .bf16)
    (b : Fin 4) (p j : Fin 4096) : PROJ x g w (ix3 b p j) = prow x g w b p j := by
  pointwise [PROJ, Rows.proj, Rows.rms]

theorem ang_at (p : Fin 4096) (i : Fin 32) : ANG (ix2 p i) = ang p i := by
  pointwise [ANG, Rows.angle]
  rfl

/-- A head's column of the turned heads, from the token's row of 512. -/
theorem rot_at (t : FVec Ideal S4x4096x512 .f32) (b : Fin 4) (p : Fin 4096) (h : Fin 8) (d : Fin 64) (j : Fin 512)
    (hj : j.val = h.val * 64 + d.val) :
    ROT (shapeCast _ t shapeCasts_S4x4096x512_S4x4096x8x64) (ix4 b p h d) = Rows.turned (fun l => t (ix3 b p l)) (ang p) j := by
  pointwise [ROT, ALL, ang_at, Rows.turned]
  by_cases hd : d.val < 32
  · have hn : j.val % 64 < 32 := by omega
    refine (dif_pos hd).trans (Eq.trans ?_ (if_pos hn).symm)
    exact congrArg₂ (· - ·)
      (congrArg₂ (· * ·) (congrArg (fun q => t (ix3 b p q)) (Fin.ext hj.symm)) (congrArg (fun i => Ideal.cos (ang p i)) (Fin.ext (by show d.val = j.val % 32; omega))))
      (congrArg₂ (· * ·) (congrArg (fun q => t (ix3 b p q)) (Fin.ext (by show h.val * 64 + (32 + d.val) = (j.val + 32) % 512; omega)))
        (congrArg (fun i => Ideal.sin (ang p i)) (Fin.ext (by show d.val = j.val % 32; omega))))
  · have hn : ¬ j.val % 64 < 32 := by omega
    refine (dif_neg hd).trans (Eq.trans ?_ (if_neg hn).symm)
    exact congrArg₂ (· + ·)
      (congrArg₂ (· * ·) (congrArg (fun q => t (ix3 b p q)) (Fin.ext (by show h.val * 64 + (32 + (d.val - 32)) = j.val; omega)))
        (congrArg (fun i => Ideal.cos (ang p i)) (Fin.ext (by show d.val - 32 = j.val % 32; omega))))
      (congrArg₂ (· * ·) (congrArg (fun q => t (ix3 b p q)) (Fin.ext (by show h.val * 64 + (d.val - 32) = (j.val + 480) % 512; omega)))
        (congrArg (fun i => Ideal.sin (ang p i)) (Fin.ext (by show d.val - 32 = j.val % 32; omega))))

theorem blocks_at (t : FVec Ideal S4x4096x8x64 .f32) (b : Fin 4) (n : Fin 16) (j : Fin 512) (s : Fin 256) :
    BLOCKS t (ix4 b n j s) = t (ix4 b ⟨n.val * 256 + s.val, by omega⟩ ⟨j.val / 64, by omega⟩ ⟨j.val % 64, by omega⟩) := by
  pointwise [BLOCKS]

theorem bypos_at (t : FVec Ideal S4x4096x8x64 .f32) (b : Fin 4) (j : Fin 512) (p : Fin 4096) :
    BYPOS t (ix3 b j p) = t (ix4 b p ⟨j.val / 64, by omega⟩ ⟨j.val % 64, by omega⟩) := by
  pointwise [BYPOS]

theorem flat_at (t : FVec Ideal S4x4096x8x64 .f32) (b : Fin 4) (p : Fin 4096) (j : Fin 512) :
    FLAT t (ix2 ⟨b.val * 4096 + p.val, by omega⟩ j) = t (ix4 b p ⟨j.val / 64, by omega⟩ ⟨j.val % 64, by omega⟩) := by
  pointwise [FLAT]

theorem means_at (t : FVec Ideal S4x4096x8x64 .f32) (b : Fin 4) (n : Fin 16) (j : Fin 512) :
    MEANS t (ix4 b n 0 j) = Ideal.div (∑ s : Fin 256, t (ix4 b ⟨n.val * 256 + s.val, by omega⟩ ⟨j.val / 64, by omega⟩ ⟨j.val % 64, by omega⟩))
      (Ideal.ofBits .f32 0x43800000#32) := by
  pointwise [MEANS]

theorem u_at (q : FVec Ideal S4x4096x4096 .f32) (b : Fin 4) (p : Fin 4096) (j : Fin 512) :
    U q (ix2 ⟨b.val * 4096 + p.val, by omega⟩ j) = q (ix3 b p ⟨1536 + j.val, by omega⟩) := by
  pointwise [U]

theorem ga_at (q : FVec Ideal S4x4096x4096 .f32) (b : Fin 4) (p : Fin 4096) (j : Fin 1024) :
    GA q (ix2 ⟨b.val * 4096 + p.val, by omega⟩ j) = Ideal.logistic (q (ix3 b p ⟨2048 + j.val, by omega⟩)) := by
  pointwise [GA, GATE]
  rfl

theorem gs_at (q : FVec Ideal S4x4096x4096 .f32) (b : Fin 4) (p : Fin 4096) (j : Fin 1024) :
    GS q (ix2 ⟨b.val * 4096 + p.val, by omega⟩ j) = Ideal.logistic (q (ix3 b p ⟨3072 + j.val, by omega⟩)) := by
  pointwise [GS, GATE]
  rfl

/-! ## The results, from the arguments -/

section Results

variable (x : FVec Ideal S4x4096x1024 .f32) (g : FVec Ideal S1x1024 .f32) (w : FVec Ideal S1024x4096 .bf16)

/-- The columns of a token's projected row from `o` on, turned by its position. -/
abbrev rturned (o : Nat) (ho : o + 512 ≤ 4096) (b : Fin 4) (p : Fin 4096) (j : Fin 512) : EReal :=
  Rows.turned (fun l => prow x g w b p ⟨o + l.val, by omega⟩) (ang p) j

theorem q4_at (b : Fin 4) (p : Fin 4096) (j : Fin 512) :
    Q4 (PROJ x g w) (ix4 b p ⟨j.val / 64, by omega⟩ ⟨j.val % 64, by omega⟩) = rturned x g w 0 (by omega) b p j := by
  refine (rot_at _ b p _ _ j (by show j.val = j.val / 64 * 64 + j.val % 64; omega)).trans ?_
  refine congrArg (fun f => Rows.turned f (ang p) j) (funext fun l => ?_)
  pointwise [proj_at]

theorem k4_at (b : Fin 4) (p : Fin 4096) (j : Fin 512) :
    K4 (PROJ x g w) (ix4 b p ⟨j.val / 64, by omega⟩ ⟨j.val % 64, by omega⟩) = rturned x g w 512 (by omega) b p j := by
  refine (rot_at _ b p _ _ j (by show j.val = j.val / 64 * 64 + j.val % 64; omega)).trans ?_
  refine congrArg (fun f => Rows.turned f (ang p) j) (funext fun l => ?_)
  pointwise [proj_at]

theorem v4_at (b : Fin 4) (p : Fin 4096) (j : Fin 512) :
    V4 (PROJ x g w) (ix4 b p ⟨j.val / 64, by omega⟩ ⟨j.val % 64, by omega⟩) = prow x g w b p ⟨1024 + j.val, by omega⟩ := by
  have e : j.val / 64 * 64 + j.val % 64 = j.val := by omega
  pointwise [V4, proj_at, e]

theorem qb_at (b : Fin 4) (n : Fin 16) (j : Fin 512) (s : Fin 256) :
    BLOCKS (QS (Q4 (PROJ x g w))) (ix4 b n j s)
      = rturned x g w 0 (by omega) b ⟨n.val * 256 + s.val, by omega⟩ j * Ideal.ofBits .f32 0x3E38AA3B#32 := by
  rw [blocks_at]
  pointwise [QS, q4_at]

theorem kmean_at (b : Fin 4) (n : Fin 16) (j : Fin 512) :
    MEANS (K4 (PROJ x g w)) (ix4 b n 0 j)
      = Ideal.div (∑ s : Fin 256, rturned x g w 512 (by omega) b ⟨n.val * 256 + s.val, by omega⟩ j) (Ideal.ofBits .f32 0x43800000#32) := by
  simp only [means_at, k4_at]

theorem kt_at (b : Fin 4) (j : Fin 512) (p : Fin 4096) :
    BYPOS (K4 (PROJ x g w)) (ix3 b j p) = rturned x g w 512 (by omega) b p j := by rw [bypos_at, k4_at]

theorem kf_at (b : Fin 4) (p : Fin 4096) (j : Fin 512) :
    FLAT (K4 (PROJ x g w)) (ix2 ⟨b.val * 4096 + p.val, by omega⟩ j) = rturned x g w 512 (by omega) b p j := by rw [flat_at, k4_at]

theorem vt_at (b : Fin 4) (j : Fin 512) (p : Fin 4096) :
    BYPOS (V4 (PROJ x g w)) (ix3 b j p) = prow x g w b p ⟨1024 + j.val, by omega⟩ := by rw [bypos_at, v4_at]

theorem vb_at (b : Fin 4) (n : Fin 16) (j : Fin 512) (s : Fin 256) :
    BLOCKS (V4 (PROJ x g w)) (ix4 b n j s) = prow x g w b ⟨n.val * 256 + s.val, by omega⟩ ⟨1024 + j.val, by omega⟩ := by
  rw [blocks_at, v4_at]

end Results

end Cert.InProjRefIdeal.Rows

end
-- ==== Proof.InProjVal.lean ====
/- What the prompt projection's windows hold at a grid point, and every row of a block as the reference's row. -/
module

public import proofs.«01_k».proof.Proof.InProjOut
public import Idealize.ShloMosaic.Lib.Claim
public import proofs.«01_k».proof.Proof.InProjRef

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.InProjIdeal.Body

variable (m : (ℓ : Loc nD τ sig) → Buf (Elt Ideal) ℓ)

/-- The arguments. -/
abbrev X (c : Dev nD) : FVec Ideal S4x4096x1024 .f32 := m ((c.tc : Thread nD τ).loc main_arg0)
abbrev G (c : Dev nD) : FVec Ideal S1x1024 .f32 := m ((c.tc : Thread nD τ).loc main_arg1)
abbrev W (c : Dev nD) : FVec Ideal S1024x4096 .bf16 := m ((c.tc : Thread nD τ).loc main_arg2)

theorem V_x (c : Dev nD) (r : Fin 16384) (l : Fin 1024) :
    V m c main_v25 (ix2 r l) = X m c (ix3 ⟨r.val / 4096, by omega⟩ ⟨r.val % 4096, by omega⟩ l) := by
  entry_read
  pointwise []

theorem V_cos (c : Dev nD) (p : Fin 4096) (l : Fin 128) :
    V m c main_v19 (ix2 p l) = Ideal.cos (Cert.InProjRefIdeal.Rows.ang p ⟨l.val % 32, by omega⟩) := by
  entry_read
  pointwise [Rows.angle]
  split
  · rw [show l.val % 64 = l.val % 32 by omega]; rfl
  · rw [show l.val % 64 - 32 = l.val % 32 by omega]; rfl

theorem V_sin (c : Dev nD) (p : Fin 4096) (l : Fin 128) :
    V m c main_v24 (ix2 p l) = if l.val % 64 < 32 then -Ideal.sin (Cert.InProjRefIdeal.Rows.ang p ⟨l.val % 32, by omega⟩)
      else Ideal.sin (Cert.InProjRefIdeal.Rows.ang p ⟨l.val % 32, by omega⟩) := by
  entry_read
  pointwise [Rows.angle]
  split
  · rw [show l.val % 64 = l.val % 32 by omega]; rfl
  · rw [show l.val % 64 - 32 = l.val % 32 by omega]; rfl

/-- Where the windows stand at grid point `t`: token blocks at `t`, the tables at the block within the sequence. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] :=
  (by decide +kernel : ∀ t : Fin grid0.N, win0_0.index t = ![t.val, 0] ∧ win0_1.index t = ![0, 0] ∧ win0_2.index t = ![0, 0]
    ∧ win0_3.index t = ![t.val % 4, 0] ∧ win0_4.index t = ![t.val % 4, 0])

/-- Row `r` of block `t`, projected, is the token's projected row. -/
theorem row_block (c : Dev nD) (t : Fin cfg0.N) (ht : t.val < 16) (r : Fin 1024) (j : Fin 4096) :
    Pay.brow (iblk m c 0 t) (iblk m c 1 t) (iblk m c 2 t) r j
      = Cert.InProjRefIdeal.Rows.prow (X m c) (G m c) (W m c) ⟨t.val / 4, by omega⟩ ⟨t.val % 4 * 1024 + r.val, by omega⟩ j := by
  unfold Pay.brow Cert.InProjRefIdeal.Rows.prow
  congr 1
  · funext l
    refine Eq.trans ?_ ((V_x m c ⟨t.val * 1024 + r.val, by omega⟩ l).trans ?_)
    · blk_ext [iblk, idx t]
    · blk_ext
  · funext l; blk_ext [iblk, V, idx t]
  · funext k l; blk_ext [iblk, V, idx t]

/-- Row `r` of block `t`, turned by the block's tables, is the token's row turned by its position. -/
theorem spun_block (c : Dev nD) (t : Fin cfg0.N) (ht : t.val < 16) (o : Nat) (ho : o + 512 ≤ 4096) (r : Fin 1024) (j : Fin 512) :
    Pay.bspun (iblk m c 0 t) (iblk m c 1 t) (iblk m c 2 t) (iblk m c 3 t) (iblk m c 4 t) o ho r j
      = Cert.InProjRefIdeal.Rows.rturned (X m c) (G m c) (W m c) o ho ⟨t.val / 4, by omega⟩ ⟨t.val % 4 * 1024 + r.val, by omega⟩ j := by
  refine (Rows.spun_eq_turned _ _ _ (Cert.InProjRefIdeal.Rows.ang ⟨t.val % 4 * 1024 + r.val, by omega⟩) (fun l => ?_) (fun l => ?_) j).trans ?_
  · refine Eq.trans ?_ (V_cos m c ⟨t.val % 4 * 1024 + r.val, by omega⟩ l)
    blk_ext [iblk, idx t]
  · refine Eq.trans ?_ (V_sin m c ⟨t.val % 4 * 1024 + r.val, by omega⟩ l)
    blk_ext [iblk, idx t]
  · exact congrArg (fun f => Rows.turned f _ j) (funext fun l => row_block m c t ht r _)

end Cert.InProjIdeal.Value

end
-- ==== Proof.InProjFinal.lean ====
/- Each result array of the prompt projection, whole: every entry lies in one grid point's block, and is the reference's. -/
module

public import proofs.«01_k».proof.Proof.InProjVal

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.InProjIdeal.Body
open Cert.InProjRefIdeal.Rows (PROJ Q4 K4 V4 BLOCKS BYPOS FLAT MEANS QS U GA GS prow rturned)

variable (m : (ℓ : Loc nD τ sig) → Buf (Elt Ideal) ℓ)

/-- Where the result windows stand at grid point `t`. -/
theorem idx_out : ∀ t : Fin cfg0.N, win0_11.index t = ![t.val / 4, t.val % 4, 0, 0] ∧ win0_12.index t = ![t.val / 4, 0, t.val % 4]
    ∧ win0_13.index t = ![t.val, 0] ∧ win0_14.index t = ![t.val / 4, t.val % 4, 0, 0] ∧ win0_15.index t = ![t.val / 4, 0, t.val % 4]
    ∧ win0_16.index t = ![t.val / 4, t.val % 4, 0, 0] ∧ win0_17.index t = ![t.val, 0] ∧ win0_18.index t = ![t.val, 0] ∧ win0_19.index t = ![t.val, 0] :=
  (by decide +kernel : ∀ t : Fin grid0.N, win0_11.index t = ![t.val / 4, t.val % 4, 0, 0] ∧ win0_12.index t = ![t.val / 4, 0, t.val % 4]
    ∧ win0_13.index t = ![t.val, 0] ∧ win0_14.index t = ![t.val / 4, t.val % 4, 0, 0] ∧ win0_15.index t = ![t.val / 4, 0, t.val % 4]
    ∧ win0_16.index t = ![t.val / 4, t.val % 4, 0, 0] ∧ win0_17.index t = ![t.val, 0] ∧ win0_18.index t = ![t.val, 0] ∧ win0_19.index t = ![t.val, 0])

/-- Where the six weights' windows and their casts' windows stand: slice `t` of sixteen. -/
theorem idx_cast : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0] :=
  (by decide +kernel : ∀ t : Fin grid0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0])

/-- The same token named by the block's own coordinates and by the array's. -/
theorem prow_pos (c : Dev nD) (b : Fin 4) {p q : Fin 4096} (h : p.val = q.val) (j : Fin 4096) :
    prow (X m c) (G m c) (W m c) b p j = prow (X m c) (G m c) (W m c) b q j := congrArg (fun p => prow _ _ _ b p j) (Fin.ext h)
theorem rturned_pos (c : Dev nD) (o : Nat) (ho : o + 512 ≤ 4096) (b : Fin 4) {p q : Fin 4096} (h : p.val = q.val) (j : Fin 512) :
    rturned (X m c) (G m c) (W m c) o ho b p j = rturned (X m c) (G m c) (W m c) o ho b q j :=
  congrArg (fun p => rturned _ _ _ o ho b p j) (Fin.ext h)

/-! ## Queries, keys, values -/

theorem final11 (c : Dev nD) : (dats m 0 c).arrAt 11 cfg0.N = BLOCKS (QS (Q4 (PROJ (X m c) (G m c) (W m c)))) := by
  refine (dats m 0 c).arrAt_eq_of_covers 11 _ (by decide +kernel) fun t hf y => ?_
  idx_vars y
  have ht : t.val < 16 := lt_of_lt_of_eq t.isLt N_0
  rw [after0_11]
  obtain rfl : y0 = 0 := Subsingleton.elim _ _
  have e : ((cfg0.win 11).blk t).view.emb (ix4 0 y1 y2 y3) = ix4 ⟨t.val / 4, by omega⟩ ⟨t.val % 4 * 4 + y1.val, by omega⟩ y2 y3 := by
    blk_ext [idx_out t]
  have p (s : Fin 256) : t.val % 4 * 1024 + (y1.val * 256 + s.val) = (t.val % 4 * 4 + y1.val) * 256 + s.val := by omega
  have h := (Pay.out11_at (iblk m c 0 t) (iblk m c 1 t) (iblk m c 2 t) (iblk m c 3 t) (iblk m c 4 t) (iblk m c 5 t) (iblk m c 6 t) (iblk m c 7 t) (iblk m c 8 t) (iblk m c 9 t) (iblk m c 10 t) y1 y2 y3).trans
    ((congrArg (· * Ideal.ofBits .f32 0x3E38AA3B#32) ((spun_block m c t ht 0 (by omega) ⟨y1.val * 256 + y3.val, by omega⟩ y2).trans (rturned_pos m c 0 (by omega) _ (p y3) y2))).trans
      ((congrArg (BLOCKS (QS (Q4 (PROJ (X m c) (G m c) (W m c))))) e).trans (Cert.InProjRefIdeal.Rows.qb_at (X m c) (G m c) (W m c) ⟨t.val / 4, by omega⟩ ⟨t.val % 4 * 4 + y1.val, by omega⟩ y2 y3)).symm)
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize BLOCKS (QS (Q4 (PROJ (X m c) (G m c) (W m c)))) = z at h ⊢
  exact h

theorem final12 (c : Dev nD) : (dats m 0 c).arrAt 12 cfg0.N = BYPOS (K4 (PROJ (X m c) (G m c) (W m c))) := by
  refine (dats m 0 c).arrAt_eq_of_covers 12 _ (by decide +kernel) fun t hf y => ?_
  idx_vars y
  have ht : t.val < 16 := lt_of_lt_of_eq t.isLt N_0
  rw [after0_12]
  obtain rfl : y0 = 0 := Subsingleton.elim _ _
  have e : ((cfg0.win 12).blk t).view.emb (ix3 0 y1 y2) = ix3 ⟨t.val / 4, by omega⟩ y1 ⟨t.val % 4 * 1024 + y2.val, by omega⟩ := by
    blk_ext [idx_out t]
  have h := (Pay.out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) y1 y2).trans
    ((spun_block m c t ht 512 (by omega) y2 y1).trans
      ((congrArg (BYPOS (K4 (PROJ (X m c) (G m c) (W m c)))) e).trans (Cert.InProjRefIdeal.Rows.kt_at (X m c) (G m c) (W m c) ⟨t.val / 4, by omega⟩ y1 ⟨t.val % 4 * 1024 + y2.val, by omega⟩)).symm)
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize BYPOS (K4 (PROJ (X m c) (G m c) (W m c))) = z at h ⊢
  exact h

theorem final13 (c : Dev nD) : (dats m 0 c).arrAt 13 cfg0.N = FLAT (K4 (PROJ (X m c) (G m c) (W m c))) := by
  refine (dats m 0 c).arrAt_eq_of_covers 13 _ (by decide +kernel) fun t hf y => ?_
  idx_vars y
  have ht : t.val < 16 := lt_of_lt_of_eq t.isLt N_0
  rw [after0_13]
  have e : ((cfg0.win 13).blk t).view.emb (ix2 y0 y1) = ix2 ⟨t.val / 4 * 4096 + (t.val % 4 * 1024 + y0.val), by omega⟩ y1 := by
    blk_ext [idx_out t]
  have h := (Pay.out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).trans
    ((spun_block m c t ht 512 (by omega) y0 y1).trans
      ((congrArg (FLAT (K4 (PROJ (X m c) (G m c) (W m c)))) e).trans (Cert.InProjRefIdeal.Rows.kf_at (X m c) (G m c) (W m c) ⟨t.val / 4, by omega⟩ ⟨t.val % 4 * 1024 + y0.val, by omega⟩ y1)).symm)
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize FLAT (K4 (PROJ (X m c) (G m c) (W m c))) = z at h ⊢
  exact h

theorem final14 (c : Dev nD) : (dats m 0 c).arrAt 14 cfg0.N = MEANS (K4 (PROJ (X m c) (G m c) (W m c))) := by
  refine (dats m 0 c).arrAt_eq_of_covers 14 _ (by decide +kernel) fun t hf y => ?_
  idx_vars y
  have ht : t.val < 16 := lt_of_lt_of_eq t.isLt N_0
  rw [after0_14]
  obtain rfl : y0 = 0 := Subsingleton.elim _ _
  obtain rfl : y2 = 0 := Subsingleton.elim _ _
  have e : ((cfg0.win 14).blk t).view.emb (ix4 0 y1 0 y3) = ix4 ⟨t.val / 4, by omega⟩ ⟨t.val % 4 * 4 + y1.val, by omega⟩ 0 y3 := by
    blk_ext [idx_out t]
  have p (s : Fin 256) : t.val % 4 * 1024 + (y1.val * 256 + s.val) = (t.val % 4 * 4 + y1.val) * 256 + s.val := by omega
  have h := (Pay.out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) y1 y3).trans
    ((congrArg (Ideal.div · (Ideal.ofBits .f32 0x43800000#32)) (Finset.sum_congr rfl fun s _ =>
      (spun_block m c t ht 512 (by omega) ⟨y1.val * 256 + s.val, by omega⟩ y3).trans (rturned_pos m c 512 (by omega) _ (p s) y3))).trans
      ((congrArg (MEANS (K4 (PROJ (X m c) (G m c) (W m c)))) e).trans (Cert.InProjRefIdeal.Rows.kmean_at (X m c) (G m c) (W m c) ⟨t.val / 4, by omega⟩ ⟨t.val % 4 * 4 + y1.val, by omega⟩ y3)).symm)
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize MEANS (K4 (PROJ (X m c) (G m c) (W m c))) = z at h ⊢
  exact h

theorem final15 (c : Dev nD) : (dats m 0 c).arrAt 15 cfg0.N = BYPOS (V4 (PROJ (X m c) (G m c) (W m c))) := by
  refine (dats m 0 c).arrAt_eq_of_covers 15 _ (by decide +kernel) fun t hf y => ?_
  idx_vars y
  have ht : t.val < 16 := lt_of_lt_of_eq t.isLt N_0
  rw [after0_15]
  obtain rfl : y0 = 0 := Subsingleton.elim _ _
  have e : ((cfg0.win 15).blk t).view.emb (ix3 0 y1 y2) = ix3 ⟨t.val / 4, by omega⟩ y1 ⟨t.val % 4 * 1024 + y2.val, by omega⟩ := by
    blk_ext [idx_out t]
  have h := (Pay.out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) y1 y2).trans
    ((row_block m c t ht y2 ⟨1024 + y1.val, by omega⟩).trans
      ((congrArg (BYPOS (V4 (PROJ (X m c) (G m c) (W m c)))) e).trans (Cert.InProjRefIdeal.Rows.vt_at (X m c) (G m c) (W m c) ⟨t.val / 4, by omega⟩ y1 ⟨t.val % 4 * 1024 + y2.val, by omega⟩)).symm)
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize BYPOS (V4 (PROJ (X m c) (G m c) (W m c))) = z at h ⊢
  exact h

theorem final16 (c : Dev nD) : (dats m 0 c).arrAt 16 cfg0.N = BLOCKS (V4 (PROJ (X m c) (G m c) (W m c))) := by
  refine (dats m 0 c).arrAt_eq_of_covers 16 _ (by decide +kernel) fun t hf y => ?_
  idx_vars y
  have ht : t.val < 16 := lt_of_lt_of_eq t.isLt N_0
  rw [after0_16]
  obtain rfl : y0 = 0 := Subsingleton.elim _ _
  have e : ((cfg0.win 16).blk t).view.emb (ix4 0 y1 y2 y3) = ix4 ⟨t.val / 4, by omega⟩ ⟨t.val % 4 * 4 + y1.val, by omega⟩ y2 y3 := by
    blk_ext [idx_out t]
  have p (s : Fin 256) : t.val % 4 * 1024 + (y1.val * 256 + s.val) = (t.val % 4 * 4 + y1.val) * 256 + s.val := by omega
  have h := (Pay.out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) y1 y2 y3).trans
    (((row_block m c t ht ⟨y1.val * 256 + y3.val, by omega⟩ ⟨1024 + y2.val, by omega⟩).trans (prow_pos m c _ (p y3) _)).trans
      ((congrArg (BLOCKS (V4 (PROJ (X m c) (G m c) (W m c)))) e).trans (Cert.InProjRefIdeal.Rows.vb_at (X m c) (G m c) (W m c) ⟨t.val / 4, by omega⟩ ⟨t.val % 4 * 4 + y1.val, by omega⟩ y2 y3)).symm)
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize BLOCKS (V4 (PROJ (X m c) (G m c) (W m c))) = z at h ⊢
  exact h

/-! ## The recurrence's input and the gates -/

theorem final17 (c : Dev nD) : (dats m 0 c).arrAt 17 cfg0.N = U (PROJ (X m c) (G m c) (W m c)) := by
  refine (dats m 0 c).arrAt_eq_of_covers 17 _ (by decide +kernel) fun t hf y => ?_
  idx_vars y
  have ht : t.val < 16 := lt_of_lt_of_eq t.isLt N_0
  rw [after0_17]
  have e : ((cfg0.win 17).blk t).view.emb (ix2 y0 y1) = ix2 ⟨t.val / 4 * 4096 + (t.val % 4 * 1024 + y0.val), by omega⟩ y1 := by
    blk_ext [idx_out t]
  have h := (Pay.out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).trans
    ((row_block m c t ht y0 ⟨1536 + y1.val, by omega⟩).trans
      ((congrArg (U (PROJ (X m c) (G m c) (W m c))) e).trans ((Cert.InProjRefIdeal.Rows.u_at _ ⟨t.val / 4, by omega⟩ ⟨t.val % 4 * 1024 + y0.val, by omega⟩ y1).trans (Cert.InProjRefIdeal.Rows.proj_at (X m c) (G m c) (W m c) _ _ _))).symm)
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize U (PROJ (X m c) (G m c) (W m c)) = z at h ⊢
  exact h

theorem final18 (c : Dev nD) : (dats m 0 c).arrAt 18 cfg0.N = GA (PROJ (X m c) (G m c) (W m c)) := by
  refine (dats m 0 c).arrAt_eq_of_covers 18 _ (by decide +kernel) fun t hf y => ?_
  idx_vars y
  have ht : t.val < 16 := lt_of_lt_of_eq t.isLt N_0
  rw [after0_18]
  have e : ((cfg0.win 18).blk t).view.emb (ix2 y0 y1) = ix2 ⟨t.val / 4 * 4096 + (t.val % 4 * 1024 + y0.val), by omega⟩ y1 := by
    blk_ext [idx_out t]
  have h := (Pay.out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).trans
    ((congrArg Ideal.logistic (row_block m c t ht y0 ⟨2048 + y1.val, by omega⟩)).trans
      ((congrArg (GA (PROJ (X m c) (G m c) (W m c))) e).trans ((Cert.InProjRefIdeal.Rows.ga_at _ ⟨t.val / 4, by omega⟩ ⟨t.val % 4 * 1024 + y0.val, by omega⟩ y1).trans (congrArg Ideal.logistic (Cert.InProjRefIdeal.Rows.proj_at (X m c) (G m c) (W m c) _ _ _)))).symm)
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize GA (PROJ (X m c) (G m c) (W m c)) = z at h ⊢
  exact h

theorem final19 (c : Dev nD) : (dats m 0 c).arrAt 19 cfg0.N = GS (PROJ (X m c) (G m c) (W m c)) := by
  refine (dats m 0 c).arrAt_eq_of_covers 19 _ (by decide +kernel) fun t hf y => ?_
  idx_vars y
  have ht : t.val < 16 := lt_of_lt_of_eq t.isLt N_0
  rw [after0_19]
  have e : ((cfg0.win 19).blk t).view.emb (ix2 y0 y1) = ix2 ⟨t.val / 4 * 4096 + (t.val % 4 * 1024 + y0.val), by omega⟩ y1 := by
    blk_ext [idx_out t]
  have h := (Pay.out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).trans
    ((congrArg Ideal.logistic (row_block m c t ht y0 ⟨3072 + y1.val, by omega⟩)).trans
      ((congrArg (GS (PROJ (X m c) (G m c) (W m c))) e).trans ((Cert.InProjRefIdeal.Rows.gs_at _ ⟨t.val / 4, by omega⟩ ⟨t.val % 4 * 1024 + y0.val, by omega⟩ y1).trans (congrArg Ideal.logistic (Cert.InProjRefIdeal.Rows.proj_at (X m c) (G m c) (W m c) _ _ _)))).symm)
  generalize out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize GS (PROJ (X m c) (G m c) (W m c)) = z at h ⊢
  exact h

/-! ## The six weights -/

/-- The weight without its leading axis, in half precision. -/
abbrev CAST512x1024 (w : FVec Ideal S1x512x1024 .f32) : FVec Ideal S512x1024 .bf16 :=
  truncf .bf16 (shapeCast S512x1024 w Cert.InProjRefIdeal.Gen.shapeCasts_S1x512x1024_S512x1024) Cert.InProjRefIdeal.Gen.bitsLt_bf16_f32

theorem V_w0 (c : Dev nD) (r : Fin 512) (l : Fin 1024) :
    V m c main_v26 (ix2 r l) = CAST512x1024 (m ((c.tc : Thread nD τ).loc main_arg3)) (ix2 r l) := by
  entry_read
  pointwise []

theorem final20 (c : Dev nD) : (dats m 0 c).arrAt 20 cfg0.N = CAST512x1024 (m ((c.tc : Thread nD τ).loc main_arg3)) := by
  refine (dats m 0 c).arrAt_eq_of_covers 20 _ (by decide +kernel) fun t hf y => ?_
  idx_vars y
  have ht : t.val < 16 := lt_of_lt_of_eq t.isLt N_0
  rw [after0_20]
  have e : ((cfg0.win 20).blk t).view.emb (ix2 y0 y1) = ix2 ⟨t.val * 32 + y0.val, by omega⟩ y1 := by
    blk_ext [idx_cast t]
  have i : iblk m c 5 t (ix2 y0 y1) = V m c main_v26 (ix2 ⟨t.val * 32 + y0.val, by omega⟩ y1) := by
    blk_ext [iblk, idx_cast t]
  have h := (Pay.out20_at (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans
    ((i.trans (V_w0 m c _ y1)).trans
      ((congrArg (CAST512x1024 (m ((c.tc : Thread nD τ).loc main_arg3))) e).trans rfl).symm)
  generalize out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize CAST512x1024 (m ((c.tc : Thread nD τ).loc main_arg3)) = z at h ⊢
  exact h

/-- The weight without its leading axis, in half precision. -/
abbrev CAST512x512 (w : FVec Ideal S1x512x512 .f32) : FVec Ideal S512x512 .bf16 :=
  truncf .bf16 (shapeCast S512x512 w Cert.InProjRefIdeal.Gen.shapeCasts_S1x512x512_S512x512) Cert.InProjRefIdeal.Gen.bitsLt_bf16_f32

theorem V_w1 (c : Dev nD) (r : Fin 512) (l : Fin 512) :
    V m c main_v27 (ix2 r l) = CAST512x512 (m ((c.tc : Thread nD τ).loc main_arg4)) (ix2 r l) := by
  entry_read
  pointwise []

theorem final21 (c : Dev nD) : (dats m 0 c).arrAt 21 cfg0.N = CAST512x512 (m ((c.tc : Thread nD τ).loc main_arg4)) := by
  refine (dats m 0 c).arrAt_eq_of_covers 21 _ (by decide +kernel) fun t hf y => ?_
  idx_vars y
  have ht : t.val < 16 := lt_of_lt_of_eq t.isLt N_0
  rw [after0_21]
  have e : ((cfg0.win 21).blk t).view.emb (ix2 y0 y1) = ix2 ⟨t.val * 32 + y0.val, by omega⟩ y1 := by
    blk_ext [idx_cast t]
  have i : iblk m c 6 t (ix2 y0 y1) = V m c main_v27 (ix2 ⟨t.val * 32 + y0.val, by omega⟩ y1) := by
    blk_ext [iblk, idx_cast t]
  have h := (Pay.out21_at (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans
    ((i.trans (V_w1 m c _ y1)).trans
      ((congrArg (CAST512x512 (m ((c.tc : Thread nD τ).loc main_arg4))) e).trans rfl).symm)
  generalize out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize CAST512x512 (m ((c.tc : Thread nD τ).loc main_arg4)) = z at h ⊢
  exact h

theorem V_w2 (c : Dev nD) (r : Fin 512) (l : Fin 1024) :
    V m c main_v28 (ix2 r l) = CAST512x1024 (m ((c.tc : Thread nD τ).loc main_arg5)) (ix2 r l) := by
  entry_read
  pointwise []

theorem final22 (c : Dev nD) : (dats m 0 c).arrAt 22 cfg0.N = CAST512x1024 (m ((c.tc : Thread nD τ).loc main_arg5)) := by
  refine (dats m 0 c).arrAt_eq_of_covers 22 _ (by decide +kernel) fun t hf y => ?_
  idx_vars y
  have ht : t.val < 16 := lt_of_lt_of_eq t.isLt N_0
  rw [after0_22]
  have e : ((cfg0.win 22).blk t).view.emb (ix2 y0 y1) = ix2 ⟨t.val * 32 + y0.val, by omega⟩ y1 := by
    blk_ext [idx_cast t]
  have i : iblk m c 7 t (ix2 y0 y1) = V m c main_v28 (ix2 ⟨t.val * 32 + y0.val, by omega⟩ y1) := by
    blk_ext [iblk, idx_cast t]
  have h := (Pay.out22_at (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans
    ((i.trans (V_w2 m c _ y1)).trans
      ((congrArg (CAST512x1024 (m ((c.tc : Thread nD τ).loc main_arg5))) e).trans rfl).symm)
  generalize out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize CAST512x1024 (m ((c.tc : Thread nD τ).loc main_arg5)) = z at h ⊢
  exact h

/-- The weight without its leading axis, in half precision. -/
abbrev CAST1024x1024 (w : FVec Ideal S1x1024x1024 .f32) : FVec Ideal S1024x1024 .bf16 :=
  truncf .bf16 (shapeCast S1024x1024 w Cert.InProjRefIdeal.Gen.shapeCasts_S1x1024x1024_S1024x1024) Cert.InProjRefIdeal.Gen.bitsLt_bf16_f32

theorem V_w3 (c : Dev nD) (r : Fin 1024) (l : Fin 1024) :
    V m c main_v29 (ix2 r l) = CAST1024x1024 (m ((c.tc : Thread nD τ).loc main_arg6)) (ix2 r l) := by
  entry_read
  pointwise []

theorem final23 (c : Dev nD) : (dats m 0 c).arrAt 23 cfg0.N = CAST1024x1024 (m ((c.tc : Thread nD τ).loc main_arg6)) := by
  refine (dats m 0 c).arrAt_eq_of_covers 23 _ (by decide +kernel) fun t hf y => ?_
  idx_vars y
  have ht : t.val < 16 := lt_of_lt_of_eq t.isLt N_0
  rw [after0_23]
  have e : ((cfg0.win 23).blk t).view.emb (ix2 y0 y1) = ix2 ⟨t.val * 64 + y0.val, by omega⟩ y1 := by
    blk_ext [idx_cast t]
  have i : iblk m c 8 t (ix2 y0 y1) = V m c main_v29 (ix2 ⟨t.val * 64 + y0.val, by omega⟩ y1) := by
    blk_ext [iblk, idx_cast t]
  have h := (Pay.out23_at (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans
    ((i.trans (V_w3 m c _ y1)).trans
      ((congrArg (CAST1024x1024 (m ((c.tc : Thread nD τ).loc main_arg6))) e).trans rfl).symm)
  generalize out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize CAST1024x1024 (m ((c.tc : Thread nD τ).loc main_arg6)) = z at h ⊢
  exact h

/-- The weight without its leading axis, in half precision. -/
abbrev CAST1024x5632 (w : FVec Ideal S1x1024x5632 .f32) : FVec Ideal S1024x5632 .bf16 :=
  truncf .bf16 (shapeCast S1024x5632 w Cert.InProjRefIdeal.Gen.shapeCasts_S1x1024x5632_S1024x5632) Cert.InProjRefIdeal.Gen.bitsLt_bf16_f32

theorem V_w4 (c : Dev nD) (r : Fin 1024) (l : Fin 5632) :
    V m c main_v30 (ix2 r l) = CAST1024x5632 (m ((c.tc : Thread nD τ).loc main_arg7)) (ix2 r l) := by
  entry_read
  pointwise []

theorem final24 (c : Dev nD) : (dats m 0 c).arrAt 24 cfg0.N = CAST1024x5632 (m ((c.tc : Thread nD τ).loc main_arg7)) := by
  refine (dats m 0 c).arrAt_eq_of_covers 24 _ (by decide +kernel) fun t hf y => ?_
  idx_vars y
  have ht : t.val < 16 := lt_of_lt_of_eq t.isLt N_0
  rw [after0_24]
  have e : ((cfg0.win 24).blk t).view.emb (ix2 y0 y1) = ix2 ⟨t.val * 64 + y0.val, by omega⟩ y1 := by
    blk_ext [idx_cast t]
  have i : iblk m c 9 t (ix2 y0 y1) = V m c main_v30 (ix2 ⟨t.val * 64 + y0.val, by omega⟩ y1) := by
    blk_ext [iblk, idx_cast t]
  have h := (Pay.out24_at (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans
    ((i.trans (V_w4 m c _ y1)).trans
      ((congrArg (CAST1024x5632 (m ((c.tc : Thread nD τ).loc main_arg7))) e).trans rfl).symm)
  generalize out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize CAST1024x5632 (m ((c.tc : Thread nD τ).loc main_arg7)) = z at h ⊢
  exact h

/-- The weight without its leading axis, in half precision. -/
abbrev CAST2816x1024 (w : FVec Ideal S1x2816x1024 .f32) : FVec Ideal S2816x1024 .bf16 :=
  truncf .bf16 (shapeCast S2816x1024 w Cert.InProjRefIdeal.Gen.shapeCasts_S1x2816x1024_S2816x1024) Cert.InProjRefIdeal.Gen.bitsLt_bf16_f32

theorem V_w5 (c : Dev nD) (r : Fin 2816) (l : Fin 1024) :
    V m c main_v31 (ix2 r l) = CAST2816x1024 (m ((c.tc : Thread nD τ).loc main_arg8)) (ix2 r l) := by
  entry_read
  pointwise []

theorem final25 (c : Dev nD) : (dats m 0 c).arrAt 25 cfg0.N = CAST2816x1024 (m ((c.tc : Thread nD τ).loc main_arg8)) := by
  refine (dats m 0 c).arrAt_eq_of_covers 25 _ (by decide +kernel) fun t hf y => ?_
  idx_vars y
  have ht : t.val < 16 := lt_of_lt_of_eq t.isLt N_0
  rw [after0_25]
  have e : ((cfg0.win 25).blk t).view.emb (ix2 y0 y1) = ix2 ⟨t.val * 176 + y0.val, by omega⟩ y1 := by
    blk_ext [idx_cast t]
  have i : iblk m c 10 t (ix2 y0 y1) = V m c main_v31 (ix2 ⟨t.val * 176 + y0.val, by omega⟩ y1) := by
    blk_ext [iblk, idx_cast t]
  have h := (Pay.out25_at (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y0 y1)).trans
    ((i.trans (V_w5 m c _ y1)).trans
      ((congrArg (CAST2816x1024 (m ((c.tc : Thread nD τ).loc main_arg8))) e).trans rfl).symm)
  generalize out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) = f at h ⊢
  generalize CAST2816x1024 (m ((c.tc : Thread nD τ).loc main_arg8)) = z at h ⊢
  exact h

end Cert.InProjIdeal.Value

end
-- ==== Proof.InProjRun.lean ====
/- The prompt projection's runs, kernel and reference: what each leaves in its fifteen results. -/
module

public import proofs.«01_k».proof.Proof.InProjFinal
public import proofs.«01_k».proof.Proof.Gen.InProjRefIdeal.Run

@[expose] public section

set_option maxRecDepth 16384

noncomputable section

open Idealize.ShloMosaic Idealize.ShloMosaic.TcCoe Idealize.SL.Sem

namespace Cert.InProjIdeal.Value

open Cert.InProjIdeal Cert.InProjIdeal.Gen
open Cert.InProjRefIdeal.Rows (PROJ Q4 K4 V4 BLOCKS BYPOS FLAT MEANS QS U GA GS)

set_option maxHeartbeats 2000000 in
/-- The kernel's run. -/
theorem results (m : (ℓ : Loc nD τ sig) → Buf (Elt Ideal) ℓ) (ρ : Dev nD → PrngReg)
    (x : Dev nD → FVec Ideal S4x4096x1024 .f32) (g : Dev nD → FVec Ideal S1x1024 .f32) (w : Dev nD → FVec Ideal S1024x4096 .bf16)
    (a3 : Dev nD → FVec Ideal S1x512x1024 .f32) (a4 : Dev nD → FVec Ideal S1x512x512 .f32) (a5 : Dev nD → FVec Ideal S1x512x1024 .f32)
    (a6 : Dev nD → FVec Ideal S1x1024x1024 .f32) (a7 : Dev nD → FVec Ideal S1x1024x5632 .f32) (a8 : Dev nD → FVec Ideal S1x2816x1024 .f32)
    (h : (∀ c : Dev nD, m ((c.tc : Thread nD τ).loc main_arg0) = x c
      ∧ m ((c.tc : Thread nD τ).loc main_arg1) = g c
      ∧ m ((c.tc : Thread nD τ).loc main_arg2) = w c
      ∧ m ((c.tc : Thread nD τ).loc main_arg3) = a3 c
      ∧ m ((c.tc : Thread nD τ).loc main_arg4) = a4 c
      ∧ m ((c.tc : Thread nD τ).loc main_arg5) = a5 c
      ∧ m ((c.tc : Thread nD τ).loc main_arg6) = a6 c
      ∧ m ((c.tc : Thread nD τ).loc main_arg7) = a7 c
      ∧ m ((c.tc : Thread nD τ).loc main_arg8) = a8 c)) :
    θ_run defs (onTc (τ := τ) (main (F := Ideal))) ⟨m, fun _ => 0, ρ⟩ fun r => ∀ c : Dev nD,
      r.2.mem ((c.tc : Thread nD τ).loc main_v32_0) = BLOCKS (QS (Q4 (PROJ (x c) (g c) (w c))))
      ∧ r.2.mem ((c.tc : Thread nD τ).loc main_v32_1) = BYPOS (K4 (PROJ (x c) (g c) (w c)))
      ∧ r.2.mem ((c.tc : Thread nD τ).loc main_v32_2) = FLAT (K4 (PROJ (x c) (g c) (w c)))
      ∧ r.2.mem ((c.tc : Thread nD τ).loc main_v32_3) = MEANS (K4 (PROJ (x c) (g c) (w c)))
      ∧ r.2.mem ((c.tc : Thread nD τ).loc main_v32_4) = BYPOS (V4 (PROJ (x c) (g c) (w c)))
      ∧ r.2.mem ((c.tc : Thread nD τ).loc main_v32_5) = BLOCKS (V4 (PROJ (x c) (g c) (w c)))
      ∧ r.2.mem ((c.tc : Thread nD τ).loc main_v32_6) = U (PROJ (x c) (g c) (w c))
      ∧ r.2.mem ((c.tc : Thread nD τ).loc main_v32_7) = GA (PROJ (x c) (g c) (w c))
      ∧ r.2.mem ((c.tc : Thread nD τ).loc main_v32_8) = GS (PROJ (x c) (g c) (w c))
      ∧ r.2.mem ((c.tc : Thread nD τ).loc main_v32_9) = CAST512x1024 (a3 c)
      ∧ r.2.mem ((c.tc : Thread nD τ).loc main_v32_10) = CAST512x512 (a4 c)
      ∧ r.2.mem ((c.tc : Thread nD τ).loc main_v32_11) = CAST512x1024 (a5 c)
      ∧ r.2.mem ((c.tc : Thread nD τ).loc main_v32_12) = CAST1024x1024 (a6 c)
      ∧ r.2.mem ((c.tc : Thread nD τ).loc main_v32_13) = CAST1024x5632 (a7 c)
      ∧ r.2.mem ((c.tc : Thread nD τ).loc main_v32_14) = CAST2816x1024 (a8 c) := by
  have hx : x = fun c : Dev nD => m ((c.tc : Thread nD τ).loc main_arg0) := funext fun c => (h c).1.symm
  have hg : g = fun c : Dev nD => m ((c.tc : Thread nD τ).loc main_arg1) := funext fun c => (h c).2.1.symm
  have hw : w = fun c : Dev nD => m ((c.tc : Thread nD τ).loc main_arg2) := funext fun c => (h c).2.2.1.symm
  have ha3 : a3 = fun c : Dev nD => m ((c.tc : Thread nD τ).loc main_arg3) := funext fun c => (h c).2.2.2.1.symm
  have ha4 : a4 = fun c : Dev nD => m ((c.tc : Thread nD τ).loc main_arg4) := funext fun c => (h c).2.2.2.2.1.symm
  have ha5 : a5 = fun c : Dev nD => m ((c.tc : Thread nD τ).loc main_arg5) := funext fun c => (h c).2.2.2.2.2.1.symm
  have ha6 : a6 = fun c : Dev nD => m ((c.tc : Thread nD τ).loc main_arg6) := funext fun c => (h c).2.2.2.2.2.2.1.symm
  have ha7 : a7 = fun c : Dev nD => m ((c.tc : Thread nD τ).loc main_arg7) := funext fun c => (h c).2.2.2.2.2.2.2.1.symm
  have ha8 : a8 = fun c : Dev nD => m ((c.tc : Thread nD τ).loc main_arg8) := funext fun c => (h c).2.2.2.2.2.2.2.2.symm
  subst hx hg hw ha3 ha4 ha5 ha6 ha7 ha8
  exact (θ_run defs _ _).mono (fun r k c => ⟨((k c).1 11).trans (final11 m c),
      ((k c).1 12).trans (final12 m c),
      ((k c).1 13).trans (final13 m c),
      ((k c).1 14).trans (final14 m c),
      ((k c).1 15).trans (final15 m c),
      ((k c).1 16).trans (final16 m c),
      ((k c).1 17).trans (final17 m c),
      ((k c).1 18).trans (final18 m c),
      ((k c).1 19).trans (final19 m c),
      ((k c).1 20).trans (final20 m c),
      ((k c).1 21).trans (final21 m c),
      ((k c).1 22).trans (final22 m c),
      ((k c).1 23).trans (final23 m c),
      ((k c).1 24).trans (final24 m c),
      ((k c).1 25).trans (final25 m c)⟩) (Body.run_main m ρ)

end Cert.InProjIdeal.Value

namespace Cert.InProjRefIdeal.Rows

open Cert.InProjRefIdeal Cert.InProjRefIdeal.Gen
open Cert.InProjIdeal.Value (CAST512x1024 CAST512x512 CAST1024x1024 CAST1024x5632 CAST2816x1024)

/-- The reference's run. -/
theorem results (m : (ℓ : Loc nD τ sig) → Buf (Elt Ideal) ℓ) (ρ : Dev nD → PrngReg)
    (x : Dev nD → FVec Ideal S4x4096x1024 .f32) (g : Dev nD → FVec Ideal S1x1024 .f32) (w : Dev nD → FVec Ideal S1024x4096 .bf16)
    (a3 : Dev nD → FVec Ideal S1x512x1024 .f32) (a4 : Dev nD → FVec Ideal S1x512x512 .f32) (a5 : Dev nD → FVec Ideal S1x512x1024 .f32)
    (a6 : Dev nD → FVec Ideal S1x1024x1024 .f32) (a7 : Dev nD → FVec Ideal S1x1024x5632 .f32) (a8 : Dev nD → FVec Ideal S1x2816x1024 .f32)
    (h : (∀ c : Dev nD, m ((c.tc : Thread nD τ).loc main_arg0) = x c
      ∧ m ((c.tc : Thread nD τ).loc main_arg1) = g c
      ∧ m ((c.tc : Thread nD τ).loc main_arg2) = w c
      ∧ m ((c.tc : Thread nD τ).loc main_arg3) = a3 c
      ∧ m ((c.tc : Thread nD τ).loc main_arg4) = a4 c
      ∧ m ((c.tc : Thread nD τ).loc main_arg5) = a5 c
      ∧ m ((c.tc : Thread nD τ).loc main_arg6) = a6 c
      ∧ m ((c.tc : Thread nD τ).loc main_arg7) = a7 c
      ∧ m ((c.tc : Thread nD τ).loc main_arg8) = a8 c)) :
    θ_run defs (onTc (τ := τ) (main (F := Ideal))) ⟨m, fun _ => 0, ρ⟩ fun r => ∀ c : Dev nD,
      r.2.mem ((c.tc : Thread nD τ).loc main_v108) = BLOCKS (QS (Q4 (PROJ (x c) (g c) (w c))))
      ∧ r.2.mem ((c.tc : Thread nD τ).loc main_v110) = BYPOS (K4 (PROJ (x c) (g c) (w c)))
      ∧ r.2.mem ((c.tc : Thread nD τ).loc main_v112) = FLAT (K4 (PROJ (x c) (g c) (w c)))
      ∧ r.2.mem ((c.tc : Thread nD τ).loc main_v113) = MEANS (K4 (PROJ (x c) (g c) (w c)))
      ∧ r.2.mem ((c.tc : Thread nD τ).loc main_v115) = BYPOS (V4 (PROJ (x c) (g c) (w c)))
      ∧ r.2.mem ((c.tc : Thread nD τ).loc main_v116) = BLOCKS (V4 (PROJ (x c) (g c) (w c)))
      ∧ r.2.mem ((c.tc : Thread nD τ).loc main_v117) = U (PROJ (x c) (g c) (w c))
      ∧ r.2.mem ((c.tc : Thread nD τ).loc main_v119) = GA (PROJ (x c) (g c) (w c))
      ∧ r.2.mem ((c.tc : Thread nD τ).loc main_v121) = GS (PROJ (x c) (g c) (w c))
      ∧ r.2.mem ((c.tc : Thread nD τ).loc main_v123) = CAST512x1024 (a3 c)
      ∧ r.2.mem ((c.tc : Thread nD τ).loc main_v125) = CAST512x512 (a4 c)
      ∧ r.2.mem ((c.tc : Thread nD τ).loc main_v127) = CAST512x1024 (a5 c)
      ∧ r.2.mem ((c.tc : Thread nD τ).loc main_v129) = CAST1024x1024 (a6 c)
      ∧ r.2.mem ((c.tc : Thread nD τ).loc main_v131) = CAST1024x5632 (a7 c)
      ∧ r.2.mem ((c.tc : Thread nD τ).loc main_v133) = CAST2816x1024 (a8 c) := by
  have hx : x = fun c : Dev nD => m ((c.tc : Thread nD τ).loc main_arg0) := funext fun c => (h c).1.symm
  have hg : g = fun c : Dev nD => m ((c.tc : Thread nD τ).loc main_arg1) := funext fun c => (h c).2.1.symm
  have hw : w = fun c : Dev nD => m ((c.tc : Thread nD τ).loc main_arg2) := funext fun c => (h c).2.2.1.symm
  have ha3 : a3 = fun c : Dev nD => m ((c.tc : Thread nD τ).loc main_arg3) := funext fun c => (h c).2.2.2.1.symm
  have ha4 : a4 = fun c : Dev nD => m ((c.tc : Thread nD τ).loc main_arg4) := funext fun c => (h c).2.2.2.2.1.symm
  have ha5 : a5 = fun c : Dev nD => m ((c.tc : Thread nD τ).loc main_arg5) := funext fun c => (h c).2.2.2.2.2.1.symm
  have ha6 : a6 = fun c : Dev nD => m ((c.tc : Thread nD τ).loc main_arg6) := funext fun c => (h c).2.2.2.2.2.2.1.symm
  have ha7 : a7 = fun c : Dev nD => m ((c.tc : Thread nD τ).loc main_arg7) := funext fun c => (h c).2.2.2.2.2.2.2.1.symm
  have ha8 : a8 = fun c : Dev nD => m ((c.tc : Thread nD τ).loc main_arg8) := funext fun c => (h c).2.2.2.2.2.2.2.2.symm
  subst hx hg hw ha3 ha4 ha5 ha6 ha7 ha8
  exact (θ_run defs _ _).mono (fun r k c => ⟨(k c).1,
      (k c).2.1,
      (k c).2.2.1,
      (k c).2.2.2.1,
      (k c).2.2.2.2.1,
      (k c).2.2.2.2.2.1,
      (k c).2.2.2.2.2.2.1,
      (k c).2.2.2.2.2.2.2.1,
      (k c).2.2.2.2.2.2.2.2.1,
      (k c).2.2.2.2.2.2.2.2.2.1,
      (k c).2.2.2.2.2.2.2.2.2.2.1,
      (k c).2.2.2.2.2.2.2.2.2.2.2.1,
      (k c).2.2.2.2.2.2.2.2.2.2.2.2.1,
      (k c).2.2.2.2.2.2.2.2.2.2.2.2.2.1,
      (k c).2.2.2.2.2.2.2.2.2.2.2.2.2.2.1⟩) (Cert.InProjRefIdeal.Value.run m ρ)

end Cert.InProjRefIdeal.Rows

end
-- ==== Proof.InProjClaim.lean ====
/- The claims about the prompt's input projection. -/
module

public import proofs.«01_k».proof.Proof.InProjFrame
public import proofs.«01_k».proof.Proof.InProjRun

@[expose] public section

set_option maxRecDepth 16384

noncomputable section

namespace Cert.Proof

open Idealize.ShloMosaic Idealize.ShloMosaic.TcCoe Idealize.SL.Sem
open Cert.InProjRefIdeal.Rows (PROJ Q4 K4 V4 BLOCKS BYPOS FLAT MEANS QS U GA GS)
open Cert.InProjIdeal.Value (CAST512x1024 CAST512x512 CAST1024x1024 CAST1024x5632 CAST2816x1024)

/-- The reference keeps its arguments. -/
theorem inproj_ref : Cert.quiescent_InProjRefIdeal := by
  intro m g _
  exact (θ_run Cert.InProjRefIdeal.defs _ _).mono
    (fun r h => ⟨fun c => (h c).2.2.2.2.2.2.2.2.2.2.2.2.2.2.2, sem_eq_zero_of_no_sems (sig := Cert.InProjRefIdeal.sig) (by decide) _⟩)
    (Cert.InProjRefIdeal.Value.run m g)

/-- Every result of the kernel is the reference's: both runs leave the same fifteen arrays of the arguments. -/
theorem inproj_algebraic : Cert.algebraic_InProjIdeal_InProjRefIdeal := by
  intro m g m' g' hpre hagree
  have hk := Cert.InProjIdeal.Value.results m g _ _ _ _ _ _ _ _ _ (fun c => ⟨rfl, rfl, rfl, rfl, rfl, rfl, rfl, rfl, rfl⟩)
  have hr := Cert.InProjRefIdeal.Rows.results m' g' _ _ _ _ _ _ _ _ _ hagree
  have hr' := inproj_ref m' g' trivial
  have hk' := inproj_ideal_frame m g hpre
  let p (c : Dev Cert.InProjIdeal.nD) := PROJ (m ((c.tc : Thread Cert.InProjIdeal.nD Cert.InProjIdeal.τ).loc Cert.InProjIdeal.main_arg0))
    (m ((c.tc : Thread Cert.InProjIdeal.nD Cert.InProjIdeal.τ).loc Cert.InProjIdeal.main_arg1))
    (m ((c.tc : Thread Cert.InProjIdeal.nD Cert.InProjIdeal.τ).loc Cert.InProjIdeal.main_arg2))
  refine ⟨fun c => BLOCKS (QS (Q4 (p c))),
    fun c => BYPOS (K4 (p c)),
    fun c => FLAT (K4 (p c)),
    fun c => MEANS (K4 (p c)),
    fun c => BYPOS (V4 (p c)),
    fun c => BLOCKS (V4 (p c)),
    fun c => U (p c),
    fun c => GA (p c),
    fun c => GS (p c),
    fun c => CAST512x1024 (m ((c.tc : Thread Cert.InProjIdeal.nD Cert.InProjIdeal.τ).loc Cert.InProjIdeal.main_arg3)),
    fun c => CAST512x512 (m ((c.tc : Thread Cert.InProjIdeal.nD Cert.InProjIdeal.τ).loc Cert.InProjIdeal.main_arg4)),
    fun c => CAST512x1024 (m ((c.tc : Thread Cert.InProjIdeal.nD Cert.InProjIdeal.τ).loc Cert.InProjIdeal.main_arg5)),
    fun c => CAST1024x1024 (m ((c.tc : Thread Cert.InProjIdeal.nD Cert.InProjIdeal.τ).loc Cert.InProjIdeal.main_arg6)),
    fun c => CAST1024x5632 (m ((c.tc : Thread Cert.InProjIdeal.nD Cert.InProjIdeal.τ).loc Cert.InProjIdeal.main_arg7)),
    fun c => CAST2816x1024 (m ((c.tc : Thread Cert.InProjIdeal.nD Cert.InProjIdeal.τ).loc Cert.InProjIdeal.main_arg8)),
    (θ_run Cert.InProjIdeal.defs _ _).mono (fun r h c => ?_) (θ_run_and hk hk'),
    (θ_run Cert.InProjRefIdeal.defs _ _).mono (fun r h c => ?_) (θ_run_and hr hr')⟩
  · obtain ⟨h0, h1, h2, h3, h4, h5, h6, h7, h8, h9, h10, h11, h12, h13, h14⟩ := h.1 c
    exact ⟨h0, h1, h2, h3, h4, h5, h6, h7, h8, h9, h10, h11, h12, h13, h14, h.2.1 c⟩
  · obtain ⟨h0, h1, h2, h3, h4, h5, h6, h7, h8, h9, h10, h11, h12, h13, h14⟩ := h.1 c
    refine ⟨h0, h1, h2, h3, h4, h5, h6, h7, h8, h9, h10, h11, h12, h13, h14, ?_⟩
    exact h.2.1 c

end Cert.Proof

end
-- ==== Proof.InProjSPay.lean ====
/- The sampled token's projection: the payloads read at one entry, as row formulas of the entry's own row. -/
module

public import proofs.«01_k».proof.Proof.Gen.InProjSIdeal.Skeleton
public import proofs.«01_k».proof.Proof.Rope

@[expose] public section

set_option maxRecDepth 16384

noncomputable section

open Idealize.ShloMosaic Idealize.ShloMosaic.TcCoe Idealize.SL.Sem

namespace Cert.InProjSIdeal.Pay

open Cert.InProjSIdeal Cert.InProjSIdeal.Gen

theorem normed_at (x : FVec Ideal S32x1024 .f32) (g : FVec Ideal S1x1024 .f32) (r : Fin 32) (k : Fin 1024) :
    k0_pay14 (F := Ideal) x g (ix2 r k) = Rows.rms (fun l => x (ix2 r l)) (fun l => g (ix2 0 l)) k := by
  pointwise [k0_pay14, Rows.rms]

/-- The columns that stand in the first half of their head. -/
theorem mask_at : ∀ j : Fin 512, k0_pay18 64#32 k0_pay15 k0_pay16 k0_pay17 (ix2 0 j) = BitVec.ofBool (decide (j.val % 64 < 32)) := by
  intro j
  pointwise [k0_pay18, k0_pay15, k0_pay16, k0_pay17]
  revert j
  decide +kernel

/-- The tables stand four times side by side. -/
theorem cos_at (c : FVec Ideal S1x128 .f32) (j : Fin 512) :
    k0_pay12 (F := Ideal) c (ix2 0 j) = c (ix2 0 ⟨j.val % 128, by omega⟩) := by
  pointwise [k0_pay12]
  split_ifs <;> exact congrArg c ((ix2_inj ..).2 ⟨rfl, Fin.ext (by simp only; omega)⟩)

theorem sin_at (c : FVec Ideal S1x128 .f32) (j : Fin 512) :
    k0_pay13 (F := Ideal) c (ix2 0 j) = c (ix2 0 ⟨j.val % 128, by omega⟩) := by
  pointwise [k0_pay13]
  split_ifs <;> exact congrArg c ((ix2_inj ..).2 ⟨rfl, Fin.ext (by simp only; omega)⟩)

variable (x : FVec Ideal S32x1024 .f32) (g : FVec Ideal S1x1024 .f32) (c s : FVec Ideal S1x128 .f32)

/-- The queries: the turned products, scaled. -/
theorem q_at (w : FVec Ideal S1024x512 .bf16) (r : Fin 32) (j : Fin 512) :
    k0_pay19 (F := Ideal) (k0_pay12 (F := Ideal) c) (k0_pay13 (F := Ideal) s) (k0_pay14 (F := Ideal) x g) 64#32
        k0_pay15 k0_pay16 k0_pay17 w (ix2 r j)
      = Rows.spun (fun j => ∑ k, Rows.rms (fun l => x (ix2 r l)) (fun l => g (ix2 0 l)) k * w (ix2 k j))
          (fun l => c (ix2 0 l)) (fun l => s (ix2 0 l)) j * Ideal.ofBits .f32 0x3E000000#32 := by
  have e1 : (j.val + 512 - 480) % 512 = (j.val + 32) % 512 := by omega
  have e2 : (j.val + 512 - 32) % 512 = (j.val + 480) % 512 := by omega
  pointwise [k0_pay19, cos_at, sin_at, mask_at, normed_at, Rows.spun, e1, e2]

/-- The keys: the turned products. -/
theorem k_at (w : FVec Ideal S1024x512 .bf16) (r : Fin 32) (j : Fin 512) :
    k0_pay20 (F := Ideal) (k0_pay12 (F := Ideal) c) (k0_pay13 (F := Ideal) s) (k0_pay14 (F := Ideal) x g) 64#32
        k0_pay15 k0_pay16 k0_pay17 w (ix2 r j)
      = Rows.spun (fun j => ∑ k, Rows.rms (fun l => x (ix2 r l)) (fun l => g (ix2 0 l)) k * w (ix2 k j))
          (fun l => c (ix2 0 l)) (fun l => s (ix2 0 l)) j := by
  have e1 : (j.val + 512 - 480) % 512 = (j.val + 32) % 512 := by omega
  have e2 : (j.val + 512 - 32) % 512 = (j.val + 480) % 512 := by omega
  pointwise [k0_pay20, cos_at, sin_at, mask_at, normed_at, Rows.spun, e1, e2]

/-- The values, the recurrence's inputs and the two gates. -/
theorem v_at (w : FVec Ideal S1024x512 .bf16) (r : Fin 32) (j : Fin 512) :
    k0_pay21 (F := Ideal) (k0_pay14 (F := Ideal) x g) w (ix2 r j)
      = ∑ k, Rows.rms (fun l => x (ix2 r l)) (fun l => g (ix2 0 l)) k * w (ix2 k j) := by
  pointwise [k0_pay21, normed_at]

theorem u_at (w : FVec Ideal S1024x512 .bf16) (r : Fin 32) (j : Fin 512) :
    k0_pay1 (F := Ideal) (k0_pay14 (F := Ideal) x g) w (ix2 r j)
      = ∑ k, Rows.rms (fun l => x (ix2 r l)) (fun l => g (ix2 0 l)) k * w (ix2 k j) := by
  pointwise [k0_pay1, normed_at]

theorem ga_at (w : FVec Ideal S1024x1024 .bf16) (r : Fin 32) (j : Fin 1024) :
    k0_pay2 (F := Ideal) (k0_pay14 (F := Ideal) x g) w (ix2 r j)
      = Ideal.logistic (∑ k, Rows.rms (fun l => x (ix2 r l)) (fun l => g (ix2 0 l)) k * w (ix2 k j)) := by
  pointwise [k0_pay2, normed_at]

theorem gs_at (w : FVec Ideal S1024x1024 .bf16) (r : Fin 32) (j : Fin 1024) :
    k0_pay3 (F := Ideal) (k0_pay14 (F := Ideal) x g) w (ix2 r j)
      = Ideal.logistic (∑ k, Rows.rms (fun l => x (ix2 r l)) (fun l => g (ix2 0 l)) k * w (ix2 k j)) := by
  pointwise [k0_pay3, normed_at]

end Cert.InProjSIdeal.Pay

end
-- ==== Proof.InProjSOut.lean ====
/- The sampled token's projection: what the body leaves in its result windows, as row formulas. -/
module

public import proofs.«01_k».proof.Proof.Gen.InProjSIdeal.Value
public import Idealize.ShloMosaic.Lib.Claim
public import proofs.«01_k».proof.Proof.InProjSPay

@[expose] public section

set_option maxRecDepth 16384

noncomputable section

open Idealize.ShloMosaic Idealize.ShloMosaic.TcCoe Idealize.SL.Sem

namespace Cert.InProjSIdeal.Pay

open Cert.InProjSIdeal Cert.InProjSIdeal.Gen

/-- The columns from `o` on, one head group wide. -/
abbrev strip (o : Nat) (inb : ∀ a, (![0, o] : Fin 2 → Nat) a + (![1024, 512] : Fin 2 → Nat) a ≤ S1024x4096.size a) : Rect S1024x4096 :=
  Rect.unit (s := S1024x4096) ![0, o] ![1024, 512] inb

/-- Those columns of the weight. -/
abbrev cols (w : FVec Ideal S1024x4096 .f32) (o : Nat)
    (inb : ∀ a, (![0, o] : Fin 2 → Nat) a + (![1024, 512] : Fin 2 → Nat) a ≤ S1024x4096.size a) : FVec Ideal S1024x512 .f32 :=
  View.ld (Val := Elt Ideal) (e' := .f32) w (strip o inb)

/-- The stores of the weight's cast, eight blocks of columns, the last first. -/
abbrev chunks (w : FVec Ideal S1024x4096 .f32) : List (View.Piece (Elt Ideal) S1024x4096 .bf16) :=
  [⟨strip 3584 inb_S1024x4096_S1024x512_0_3584, k0_pay11 (F := Ideal) (cols w 3584 inb_S1024x4096_S1024x512_0_3584)⟩,
   ⟨strip 3072 inb_S1024x4096_S1024x512_0_3072, k0_pay10 (F := Ideal) (cols w 3072 inb_S1024x4096_S1024x512_0_3072)⟩,
   ⟨strip 2560 inb_S1024x4096_S1024x512_0_2560, k0_pay9 (F := Ideal) (cols w 2560 inb_S1024x4096_S1024x512_0_2560)⟩,
   ⟨strip 2048 inb_S1024x4096_S1024x512_0_2048, k0_pay8 (F := Ideal) (cols w 2048 inb_S1024x4096_S1024x512_0_2048)⟩,
   ⟨strip 1536 inb_S1024x4096_S1024x512_0_1536, k0_pay7 (F := Ideal) (cols w 1536 inb_S1024x4096_S1024x512_0_1536)⟩,
   ⟨strip 1024 inb_S1024x4096_S1024x512_0_1024, k0_pay6 (F := Ideal) (cols w 1024 inb_S1024x4096_S1024x512_0_1024)⟩,
   ⟨strip 512 inb_S1024x4096_S1024x512_0_512, k0_pay5 (F := Ideal) (cols w 512 inb_S1024x4096_S1024x512_0_512)⟩,
   ⟨strip 0 inb_S1024x4096_S1024x512_0_0, k0_pay4 (F := Ideal) (cols w 0 inb_S1024x4096_S1024x512_0_0)⟩]

/-- An entry of a block of columns, in the weight. -/
theorem at_row {o n : Nat} (inb : ∀ a, (![0, o] : Fin 2 → Nat) a + (![1024, n] : Fin 2 → Nat) a ≤ S1024x4096.size a)
    (x : (Rect.unit (s := S1024x4096) ![0, o] ![1024, n] inb).shape.Idx) :
    ((Rect.unit (s := S1024x4096) ![0, o] ![1024, n] inb).idx x 0).val = (x 0).val := (Nat.zero_add _).trans (Nat.one_mul _)
theorem at_col {o n : Nat} (inb : ∀ a, (![0, o] : Fin 2 → Nat) a + (![1024, n] : Fin 2 → Nat) a ≤ S1024x4096.size a)
    (x : (Rect.unit (s := S1024x4096) ![0, o] ![1024, n] inb).shape.Idx) :
    ((Rect.unit (s := S1024x4096) ![0, o] ![1024, n] inb).idx x 1).val = o + (x 1).val := congrArg (o + ·) (Nat.one_mul _)

/-- Together they are the weight. -/
theorem chunks_at (w : FVec Ideal S1024x4096 .f32) (k : Fin 1024) (j : Fin 4096) : View.canon (chunks w) (ix2 k j) = w (ix2 k j) := by
  unfold chunks
  canon_tiles x h
  all_goals
    change k.val = _ at h0
    change j.val = _ at h1
    open_payloads
    pointwise
    dsimp only [cols, View.ld]
    blk_ext
    · exact (at_row _ x).trans h0.symm
    · exact (at_col _ x).trans (by omega)

variable (m : (ℓ : Loc nD τ sig) → Buf (Elt Ideal) ℓ) (c : Dev nD)

/-- The blocks of the one grid point. -/
abbrev bx : FVec Ideal S32x1024 .f32 := iblk m c 0 t0_0
abbrev bg : FVec Ideal S1x1024 .f32 := iblk m c 1 t0_0
abbrev bw : FVec Ideal S1024x4096 .f32 := iblk m c 2 t0_0
abbrev bc : FVec Ideal S1x128 .f32 := iblk m c 3 t0_0
abbrev bs : FVec Ideal S1x128 .f32 := iblk m c 4 t0_0

/-- Row `r`, projected; and its columns from `o` on turned by the tables. -/
abbrev brow (r : Fin 32) (j : Fin 4096) : EReal :=
  Rows.proj (fun l => bx m c (ix2 r l)) (fun l => bg m c (ix2 0 l)) (fun k l => bw m c (ix2 k l)) j
abbrev bspun (o : Nat) (ho : o + 512 ≤ 4096) (r : Fin 32) (j : Fin 512) : EReal :=
  Rows.spun (fun l => brow m c r ⟨o + l.val, by omega⟩) (fun l => bc m c (ix2 0 l)) (fun l => bs m c (ix2 0 l)) j

theorem out5_at (r : Fin 32) (j : Fin 512) :
    (outsAt0 m c t0_0).1 (ix2 r j) = bspun m c 0 (by omega) r j * Ideal.ofBits .f32 0x3E000000#32 := by
  unfold outsAt0
  dsimp only
  unfold out0_A_5
  frame_out
  generalize hW : View.readCov (Val := Elt Ideal) _ _ _ = W
  refine (q_at (bx m c) (bg m c) (bc m c) (bs m c) W r j).trans ?_
  refine congrArg (· * _) (congrArg (fun f => Rows.spun f _ _ j) (funext fun l => ?_))
  unfold brow Rows.proj
  refine Finset.sum_congr rfl fun k _ => congrArg₂ (· * ·) rfl ?_
  rw [← hW, View.readCov_eq_canon']
  refine Eq.trans (congrArg (View.canon _) ?_) (chunks_at (bw m c) k ⟨0 + l.val, by omega⟩)
  funext a
  fin_cases a
  · exact Fin.ext (at_row _ _)
  · exact Fin.ext (at_col _ _)

theorem out6_at (r : Fin 32) (j : Fin 512) :
    (outsAt0 m c t0_0).2.1 (ix2 r j) = bspun m c 512 (by omega) r j := by
  unfold outsAt0
  dsimp only
  unfold out0_A_6
  frame_out
  generalize hW : View.readCov (Val := Elt Ideal) _ _ _ = W
  refine (k_at (bx m c) (bg m c) (bc m c) (bs m c) W r j).trans ?_
  refine congrArg (fun f => Rows.spun f _ _ j) (funext fun l => ?_)
  unfold brow Rows.proj
  refine Finset.sum_congr rfl fun k _ => congrArg₂ (· * ·) rfl ?_
  rw [← hW, View.readCov_eq_canon']
  refine Eq.trans (congrArg (View.canon _) ?_) (chunks_at (bw m c) k ⟨512 + l.val, by omega⟩)
  funext a
  fin_cases a
  · exact Fin.ext (at_row _ _)
  · exact Fin.ext (at_col _ _)

theorem out7_at (r : Fin 32) (j : Fin 512) :
    (outsAt0 m c t0_0).2.2.1 (ix2 r j) = brow m c r ⟨1024 + j.val, by omega⟩ := by
  unfold outsAt0
  dsimp only
  unfold out0_A_7
  frame_out
  generalize hW : View.readCov (Val := Elt Ideal) _ _ _ = W
  refine (v_at (bx m c) (bg m c) W r j).trans ?_
  unfold brow Rows.proj
  refine Finset.sum_congr rfl fun k _ => congrArg₂ (· * ·) rfl ?_
  rw [← hW, View.readCov_eq_canon']
  refine Eq.trans (congrArg (View.canon _) ?_) (chunks_at (bw m c) k ⟨1024 + j.val, by omega⟩)
  funext a
  fin_cases a
  · exact Fin.ext (at_row _ _)
  · exact Fin.ext (at_col _ _)

theorem out8_at (r : Fin 32) (j : Fin 512) :
    (outsAt0 m c t0_0).2.2.2.1 (ix2 r j) = brow m c r ⟨1536 + j.val, by omega⟩ := by
  unfold outsAt0
  dsimp only
  unfold out0_A_8
  frame_out
  generalize hW : View.readCov (Val := Elt Ideal) _ _ _ = W
  refine (u_at (bx m c) (bg m c) W r j).trans ?_
  unfold brow Rows.proj
  refine Finset.sum_congr rfl fun k _ => congrArg₂ (· * ·) rfl ?_
  rw [← hW, View.readCov_eq_canon']
  refine Eq.trans (congrArg (View.canon _) ?_) (chunks_at (bw m c) k ⟨1536 + j.val, by omega⟩)
  funext a
  fin_cases a
  · exact Fin.ext (at_row _ _)
  · exact Fin.ext (at_col _ _)

theorem out9_at (r : Fin 32) (j : Fin 1024) :
    (outsAt0 m c t0_0).2.2.2.2.1 (ix2 r j) = Ideal.logistic (brow m c r ⟨2048 + j.val, by omega⟩) := by
  unfold outsAt0
  dsimp only
  unfold out0_A_9
  frame_out
  generalize hW : View.readCov (Val := Elt Ideal) _ _ _ = W
  refine (ga_at (bx m c) (bg m c) W r j).trans ?_
  refine congrArg Ideal.logistic ?_
  unfold brow Rows.proj
  refine Finset.sum_congr rfl fun k _ => congrArg₂ (· * ·) rfl ?_
  rw [← hW, View.readCov_eq_canon']
  refine Eq.trans (congrArg (View.canon _) ?_) (chunks_at (bw m c) k ⟨2048 + j.val, by omega⟩)
  funext a
  fin_cases a
  · exact Fin.ext (at_row _ _)
  · exact Fin.ext (at_col _ _)

theorem out10_at (r : Fin 32) (j : Fin 1024) :
    (outsAt0 m c t0_0).2.2.2.2.2.1 (ix2 r j) = Ideal.logistic (brow m c r ⟨3072 + j.val, by omega⟩) := by
  unfold outsAt0
  dsimp only
  unfold out0_A_10
  frame_out
  generalize hW : View.readCov (Val := Elt Ideal) _ _ _ = W
  refine (gs_at (bx m c) (bg m c) W r j).trans ?_
  refine congrArg Ideal.logistic ?_
  unfold brow Rows.proj
  refine Finset.sum_congr rfl fun k _ => congrArg₂ (· * ·) rfl ?_
  rw [← hW, View.readCov_eq_canon']
  refine Eq.trans (congrArg (View.canon _) ?_) (chunks_at (bw m c) k ⟨3072 + j.val, by omega⟩)
  funext a
  fin_cases a
  · exact Fin.ext (at_row _ _)
  · exact Fin.ext (at_col _ _)

theorem out11_at (k : Fin 1024) (j : Fin 4096) : (outsAt0 m c t0_0).2.2.2.2.2.2 (ix2 k j) = bw m c (ix2 k j) := by
  unfold outsAt0
  dsimp only
  unfold out0_A_11
  frame_out
  exact chunks_at (bw m c) k j

end Cert.InProjSIdeal.Pay

end
-- ==== Proof.InProjSRef.lean ====
/- The reference of the sampled token's input projection, cut at its own intermediate arrays, each read at an entry by a
   row formula of the entry's sequence. -/
module

public import proofs.«01_k».proof.Proof.Gen.InProjSRefIdeal
public import Idealize.ShloMosaic.Lib.Claim
public import proofs.«01_k».proof.Proof.Rope

@[expose] public section

set_option maxRecDepth 16384

noncomputable section

open Idealize.ShloMosaic Idealize.ShloMosaic.TcCoe Idealize.SL.Sem

namespace Cert.InProjSRefIdeal.Rows

open Cert.InProjSRefIdeal Cert.InProjSRefIdeal.Gen

/-! ## The host's intermediate arrays -/

/-- The normed rows times the weight. -/
def PROJ (x : FVec Ideal S32x1x1024 .f32) (g : FVec Ideal S1x1024 .f32) (w : FVec Ideal S1x1024x4096 .f32) :
    FVec Ideal S32x1x4096 .f32 :=
  Host.dotGeneral dot_S32x1x1024_S1024x4096_S32x1x4096_2_0_01_1_n_n none
    (mulf (mulf x (broadcastInDim S32x1x1024 ![0, 1, 2] bcast_S32x1x1_S32x1x1024_0_1_2
      (Host.rsqrt (addf (Host.divf
        (broadcastInDim S32x1x1 ![0, 1] bcast_S32x1_S32x1x1_0_1
          (Host.reduceAdd (mulf x x) (constant S_ .f32 0x00000000#32) reducesTo_S32x1x1024_S32x1_d2 h_S_))
        (broadcastInDim S32x1x1 ![] bcast_S_S32x1x1 (constant S_ .f32 0x44800000#32)))
        (broadcastInDim S32x1x1 ![] bcast_S_S32x1x1 (constant S_ .f32 0x358637BD#32))))))
      (broadcastInDim S32x1x1024 ![0, 1, 2] bcast_S1x1x1024_S32x1x1024_0_1_2
        (broadcastInDim S1x1x1024 ![2] bcast_S1024_S1x1x1024_2 (shapeCast _ g shapeCasts_S1x1024_S1024))))
    (shapeCast _ w shapeCasts_S1x1024x4096_S1024x4096)

/-- The angles of the token's position, by frequency. -/
def ANG : FVec Ideal S1x32 .f32 :=
  mulf (broadcastInDim S1x32 ![0, 1] bcast_S1x1_S1x32_0_1
      (broadcastInDim S1x1 ![0] bcast_S1_S1x1_0
        (sitofp .f32 (addi (broadcastInDim S1 ![] bcast_S_S1 (constantI S_ 32 8192#32)) (iotaInDim S1 32 0)))))
    (broadcastInDim S1x32 ![1] bcast_S32_S1x32_1
      (Host.powf (broadcastInDim S32 ![] bcast_S_S32 (constant S_ .f32 0x461C4000#32))
        (Host.divf (mulf (broadcastInDim S32 ![] bcast_S_S32 (constant S_ .f32 0xC0000000#32))
            (sitofp .f32 (iotaInDim S32 32 0)))
          (broadcastInDim S32 ![] bcast_S_S32 (constant S_ .f32 0x42800000#32)))))

/-- An angle table, for every sequence and head. -/
def ALL (a : FVec Ideal S1x32 .f32) : FVec Ideal S32x1x8x32 .f32 :=
  broadcastInDim S32x1x8x32 ![0, 1, 2, 3] bcast_S1x1x1x32_S32x1x8x32_0_1_2_3
    (broadcastInDim S1x1x1x32 ![1, 3] bcast_S1x32_S1x1x1x32_1_3 a)

/-- The heads turned by the token's angles. -/
def ROT (t : FVec Ideal S32x1x8x64 .f32) : FVec Ideal S32x1x8x64 .f32 :=
  concatenate S32x1x8x64 3
    [⟨S32x1x8x32, subf
        (mulf (extractStridedSlice S32x1x8x32 ![0, 0, 0, 0] t slices_S32x1x8x64_S32x1x8x32_0_0_0_0) (ALL (Host.cos ANG)))
        (mulf (extractStridedSlice S32x1x8x32 ![0, 0, 0, 32] t slices_S32x1x8x64_S32x1x8x32_0_0_0_32) (ALL (Host.sin ANG)))⟩,
     ⟨S32x1x8x32, addf
        (mulf (extractStridedSlice S32x1x8x32 ![0, 0, 0, 32] t slices_S32x1x8x64_S32x1x8x32_0_0_0_32) (ALL (Host.cos ANG)))
        (mulf (extractStridedSlice S32x1x8x32 ![0, 0, 0, 0] t slices_S32x1x8x64_S32x1x8x32_0_0_0_0) (ALL (Host.sin ANG)))⟩]
    concatenates_S32x1x8x32_S32x1x8x32_S32x1x8x64_d3

/-- The scaled queries, the keys and the values, one row per sequence. -/
def Q (p : FVec Ideal S32x1x4096 .f32) : FVec Ideal S32x512 .f32 :=
  mulf (shapeCast _ (ROT (shapeCast _ (extractStridedSlice S32x1x512 ![0, 0, 0] p slices_S32x1x4096_S32x1x512_0_0_0)
    shapeCasts_S32x1x512_S32x1x8x64)) shapeCasts_S32x1x8x64_S32x512)
    (broadcastInDim S32x512 ![] bcast_S_S32x512 (constant S_ .f32 0x3E000000#32))
def K (p : FVec Ideal S32x1x4096 .f32) : FVec Ideal S32x512 .f32 :=
  shapeCast _ (ROT (shapeCast _ (extractStridedSlice S32x1x512 ![0, 0, 512] p slices_S32x1x4096_S32x1x512_0_0_512)
    shapeCasts_S32x1x512_S32x1x8x64)) shapeCasts_S32x1x8x64_S32x512
def V (p : FVec Ideal S32x1x4096 .f32) : FVec Ideal S32x512 .f32 :=
  shapeCast _ (shapeCast _ (extractStridedSlice S32x1x512 ![0, 0, 1024] p slices_S32x1x4096_S32x1x512_0_0_1024)
    shapeCasts_S32x1x512_S32x1x8x64) shapeCasts_S32x1x8x64_S32x512

/-- The recurrence's inputs. -/
def U (p : FVec Ideal S32x1x4096 .f32) : FVec Ideal S32x512 .f32 :=
  shapeCast _ (extractStridedSlice S32x1x512 ![0, 0, 1536] p slices_S32x1x4096_S32x1x512_0_0_1536) shapeCasts_S32x1x512_S32x512

/-- The logistic of a gate's columns. -/
def GATE (t : FVec Ideal S32x1x1024 .f32) : FVec Ideal S32x1024 .bf16 :=
  truncf .bf16 (shapeCast _ (Host.divf (broadcastInDim S32x1x1024 ![] bcast_S_S32x1x1024 (constant S_ .f32 0x3F800000#32))
    (addf (broadcastInDim S32x1x1024 ![] bcast_S_S32x1x1024 (constant S_ .f32 0x3F800000#32)) (Host.exp (Host.negf t))))
    shapeCasts_S32x1x1024_S32x1024) bitsLt_bf16_f32
def GA (p : FVec Ideal S32x1x4096 .f32) : FVec Ideal S32x1024 .bf16 :=
  GATE (extractStridedSlice S32x1x1024 ![0, 0, 2048] p slices_S32x1x4096_S32x1x1024_0_0_2048)
def GS (p : FVec Ideal S32x1x4096 .f32) : FVec Ideal S32x1024 .bf16 :=
  GATE (extractStridedSlice S32x1x1024 ![0, 0, 3072] p slices_S32x1x4096_S32x1x1024_0_0_3072)

/-- The weight without its leading axis, in half precision. -/
def WCAST (w : FVec Ideal S1x1024x4096 .f32) : FVec Ideal S1024x4096 .bf16 :=
  truncf .bf16 (shapeCast _ w shapeCasts_S1x1024x4096_S1024x4096) bitsLt_bf16_f32

/-! ## Their entries -/

variable (x : FVec Ideal S32x1x1024 .f32) (g : FVec Ideal S1x1024 .f32) (w : FVec Ideal S1x1024x4096 .f32)

/-- The projected row of one sequence. -/
abbrev prow (r : Fin 32) (j : Fin 4096) : EReal :=
  Rows.proj (fun l => x (ix3 r 0 l)) (fun l => g (ix2 0 l)) (fun k l => w (ix3 0 k l)) j

/-- The angles of the token's position. -/
abbrev ang : Fin 32 → EReal := Rows.angle (((8192#32 : BitVec 32).toInt : ℝ) : EReal)

/-- The columns of a sequence's projected row from `o` on, turned. -/
abbrev rturned (o : Nat) (ho : o + 512 ≤ 4096) (r : Fin 32) (j : Fin 512) : EReal :=
  Rows.turned (fun l => prow x g w r ⟨o + l.val, by omega⟩) ang j

theorem proj_at (r : Fin 32) (j : Fin 4096) : PROJ x g w (ix3 r 0 j) = prow x g w r j := by
  pointwise [PROJ, Rows.proj, Rows.rms]

theorem ang_at (i : Fin 32) : ANG (ix2 0 i) = ang i := by
  pointwise [ANG, Rows.angle]
  rfl

/-- A head's column of the turned heads, from the sequence's row of 512. -/
theorem rot_at (t : FVec Ideal S32x1x512 .f32) (r : Fin 32) (h : Fin 8) (d : Fin 64) (j : Fin 512)
    (hj : j.val = h.val * 64 + d.val) :
    ROT (shapeCast _ t shapeCasts_S32x1x512_S32x1x8x64) (ix4 r 0 h d) = Rows.turned (fun l => t (ix3 r 0 l)) ang j := by
  pointwise [ROT, ALL, ang_at, Rows.turned]
  by_cases hd : d.val < 32
  · have hn : j.val % 64 < 32 := by omega
    refine (dif_pos hd).trans (Eq.trans ?_ (if_pos hn).symm)
    exact congrArg₂ (· - ·)
      (congrArg₂ (· * ·) (congrArg (fun q => t (ix3 r 0 q)) (Fin.ext hj.symm)) (congrArg (fun i => Ideal.cos (ang i)) (Fin.ext (by show d.val = j.val % 32; omega))))
      (congrArg₂ (· * ·) (congrArg (fun q => t (ix3 r 0 q)) (Fin.ext (by show h.val * 64 + (32 + d.val) = (j.val + 32) % 512; omega)))
        (congrArg (fun i => Ideal.sin (ang i)) (Fin.ext (by show d.val = j.val % 32; omega))))
  · have hn : ¬ j.val % 64 < 32 := by omega
    refine (dif_neg hd).trans (Eq.trans ?_ (if_neg hn).symm)
    exact congrArg₂ (· + ·)
      (congrArg₂ (· * ·) (congrArg (fun q => t (ix3 r 0 q)) (Fin.ext (by show h.val * 64 + (32 + (d.val - 32)) = j.val; omega)))
        (congrArg (fun i => Ideal.cos (ang i)) (Fin.ext (by show d.val - 32 = j.val % 32; omega))))
      (congrArg₂ (· * ·) (congrArg (fun q => t (ix3 r 0 q)) (Fin.ext (by show h.val * 64 + (d.val - 32) = (j.val + 480) % 512; omega)))
        (congrArg (fun i => Ideal.sin (ang i)) (Fin.ext (by show d.val - 32 = j.val % 32; omega))))

/-- The same, one row per sequence. -/
theorem flat_at (t : FVec Ideal S32x1x512 .f32) (r : Fin 32) (j : Fin 512) :
    (shapeCast S32x512 (ROT (shapeCast _ t shapeCasts_S32x1x512_S32x1x8x64)) shapeCasts_S32x1x8x64_S32x512) (ix2 r j)
      = Rows.turned (fun l => t (ix3 r 0 l)) ang j := by
  refine Eq.trans ?_ (rot_at t r ⟨j.val / 64, by omega⟩ ⟨j.val % 64, by omega⟩ j (by show j.val = j.val / 64 * 64 + j.val % 64; omega))
  generalize ROT (shapeCast _ t shapeCasts_S32x1x512_S32x1x8x64) = z
  pointwise []

theorem q_at (r : Fin 32) (j : Fin 512) :
    Q (PROJ x g w) (ix2 r j) = rturned x g w 0 (by omega) r j * Ideal.ofBits .f32 0x3E000000#32 := by
  refine congrArg₂ (· * ·) ((flat_at _ r j).trans ?_) (by pointwise [])
  refine congrArg (fun f => Rows.turned f ang j) (funext fun l => ?_)
  pointwise [proj_at]

theorem k_at (r : Fin 32) (j : Fin 512) : K (PROJ x g w) (ix2 r j) = rturned x g w 512 (by omega) r j := by
  refine (flat_at _ r j).trans ?_
  refine congrArg (fun f => Rows.turned f ang j) (funext fun l => ?_)
  pointwise [proj_at]

theorem v_at (r : Fin 32) (j : Fin 512) : V (PROJ x g w) (ix2 r j) = prow x g w r ⟨1024 + j.val, by omega⟩ := by
  have e : j.val / 64 * 64 + j.val % 64 = j.val := by omega
  pointwise [V, proj_at, e]

theorem u_at (r : Fin 32) (j : Fin 512) : U (PROJ x g w) (ix2 r j) = prow x g w r ⟨1536 + j.val, by omega⟩ := by
  pointwise [U, proj_at]

theorem ga_at (r : Fin 32) (j : Fin 1024) : GA (PROJ x g w) (ix2 r j) = Ideal.logistic (prow x g w r ⟨2048 + j.val, by omega⟩) := by
  pointwise [GA, GATE, proj_at]
  rfl

theorem gs_at (r : Fin 32) (j : Fin 1024) : GS (PROJ x g w) (ix2 r j) = Ideal.logistic (prow x g w r ⟨3072 + j.val, by omega⟩) := by
  pointwise [GS, GATE, proj_at]
  rfl

theorem wcast_at (k : Fin 1024) (j : Fin 4096) : WCAST w (ix2 k j) = w (ix3 0 k j) := by
  pointwise [WCAST]

end Cert.InProjSRefIdeal.Rows

end
-- ==== Proof.InProjSVal.lean ====
/- The sampled token's input projection: what its windows hold, and each result array whole, as the reference's. -/
module

public import proofs.«01_k».proof.Proof.InProjSOut
public import Idealize.ShloMosaic.Lib.Claim
public import proofs.«01_k».proof.Proof.InProjSRef

@[expose] public section

set_option maxRecDepth 16384

noncomputable section

open Idealize.ShloMosaic Idealize.ShloMosaic.TcCoe Idealize.SL.Sem
open Idealize.ShloMosaic.Pipeline (Dat)

namespace Cert.InProjSIdeal.Whole

open Cert.InProjSIdeal Cert.InProjSIdeal.Gen
open Cert.InProjSRefIdeal.Rows (PROJ Q K U GA GS WCAST prow rturned ang)

variable (m : (ℓ : Loc nD τ sig) → Buf (Elt Ideal) ℓ) (c : Dev nD)

/-- The arguments. -/
abbrev X : FVec Ideal S32x1x1024 .f32 := m ((c.tc : Thread nD τ).loc main_arg0)
abbrev G : FVec Ideal S1x1024 .f32 := m ((c.tc : Thread nD τ).loc main_arg1)
abbrev W : FVec Ideal S1x1024x4096 .f32 := m ((c.tc : Thread nD τ).loc main_arg2)

theorem V_x (r : Fin 32) (l : Fin 1024) : V m c main_v24 (ix2 r l) = X m c (ix3 r 0 l) := by
  entry_read
  pointwise []

theorem V_w (k : Fin 1024) (l : Fin 4096) : V m c main_v25 (ix2 k l) = W m c (ix3 0 k l) := by
  entry_read
  pointwise []

theorem V_cos (l : Fin 128) : V m c main_v18 (ix2 0 l) = Ideal.cos (ang ⟨l.val % 32, by omega⟩) := by
  entry_read
  pointwise [Rows.angle]
  split
  · rw [show l.val % 64 = l.val % 32 by omega]; rfl
  · rw [show l.val % 64 - 32 = l.val % 32 by omega]; rfl

theorem V_sin (l : Fin 128) : V m c main_v23 (ix2 0 l) = if l.val % 64 < 32 then -Ideal.sin (ang ⟨l.val % 32, by omega⟩)
      else Ideal.sin (ang ⟨l.val % 32, by omega⟩) := by
  entry_read
  pointwise [Rows.angle]
  split
  · rw [show l.val % 64 = l.val % 32 by omega]; rfl
  · rw [show l.val % 64 - 32 = l.val % 32 by omega]; rfl

/-- Every window stands at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0])

theorem w_block (k : Fin 1024) (l : Fin 4096) : iblk m c 2 t0_0 (ix2 k l) = W m c (ix3 0 k l) := by
  refine Eq.trans ?_ (V_w m c k l)
  blk_ext [iblk, idx t0_0]

/-- A projected row of the block is the sequence's. -/
theorem row_block (r : Fin 32) (j : Fin 4096) : Pay.brow m c r j = prow (X m c) (G m c) (W m c) r j := by
  unfold Pay.brow prow
  congr 1
  · funext l
    refine Eq.trans ?_ (V_x m c r l)
    blk_ext [iblk, idx t0_0]
  · funext l; blk_ext [iblk, V, idx t0_0]
  · funext k l; exact w_block m c k l

/-- Turned by the block's tables, it is the sequence's row turned by the token's angles. -/
theorem spun_block (o : Nat) (ho : o + 512 ≤ 4096) (r : Fin 32) (j : Fin 512) :
    Pay.bspun m c o ho r j = rturned (X m c) (G m c) (W m c) o ho r j := by
  refine (Rows.spun_eq_turned _ _ _ ang (fun l => ?_) (fun l => ?_) j).trans ?_
  · refine Eq.trans ?_ (V_cos m c l)
    blk_ext [iblk, idx t0_0]
  · refine Eq.trans ?_ (V_sin m c l)
    blk_ext [iblk, idx t0_0]
  · exact congrArg (fun f => Rows.turned f _ j) (funext fun l => row_block m c r _)

theorem final5 : (dats m 0 c).arrAt 5 cfg0.N = Q (PROJ (X m c) (G m c) (W m c)) := by
  refine (dats m 0 c).arrAt_eq_of_covers 5 _ (by decide +kernel) fun t hf y => ?_
  idx_vars y
  obtain rfl := fin_N0 t
  rw [after0_5]
  have e : ((cfg0.win 5).blk t0_0).view.emb (ix2 y0 y1) = ix2 y0 y1 := by
    blk_ext [idx t0_0]
  have h := (Pay.out5_at m c y0 y1).trans ((congrArg (· * Ideal.ofBits .f32 0x3E000000#32) (spun_block m c 0 (by omega) y0 y1)).trans
    ((congrArg (Q (PROJ (X m c) (G m c) (W m c))) e).trans (Cert.InProjSRefIdeal.Rows.q_at (X m c) (G m c) (W m c) y0 y1)).symm)
  generalize (outsAt0 m c t0_0).1 = f at h ⊢
  generalize Q (PROJ (X m c) (G m c) (W m c)) = z at h ⊢
  exact h

theorem final6 : (dats m 0 c).arrAt 6 cfg0.N = K (PROJ (X m c) (G m c) (W m c)) := by
  refine (dats m 0 c).arrAt_eq_of_covers 6 _ (by decide +kernel) fun t hf y => ?_
  idx_vars y
  obtain rfl := fin_N0 t
  rw [after0_6]
  have e : ((cfg0.win 6).blk t0_0).view.emb (ix2 y0 y1) = ix2 y0 y1 := by
    blk_ext [idx t0_0]
  have h := (Pay.out6_at m c y0 y1).trans ((spun_block m c 512 (by omega) y0 y1).trans
    ((congrArg (K (PROJ (X m c) (G m c) (W m c))) e).trans (Cert.InProjSRefIdeal.Rows.k_at (X m c) (G m c) (W m c) y0 y1)).symm)
  generalize (outsAt0 m c t0_0).2.1 = f at h ⊢
  generalize K (PROJ (X m c) (G m c) (W m c)) = z at h ⊢
  exact h

theorem final7 : (dats m 0 c).arrAt 7 cfg0.N = Cert.InProjSRefIdeal.Rows.V (PROJ (X m c) (G m c) (W m c)) := by
  refine (dats m 0 c).arrAt_eq_of_covers 7 _ (by decide +kernel) fun t hf y => ?_
  idx_vars y
  obtain rfl := fin_N0 t
  rw [after0_7]
  have e : ((cfg0.win 7).blk t0_0).view.emb (ix2 y0 y1) = ix2 y0 y1 := by
    blk_ext [idx t0_0]
  have h := (Pay.out7_at m c y0 y1).trans ((row_block m c y0 _).trans
    ((congrArg (Cert.InProjSRefIdeal.Rows.V (PROJ (X m c) (G m c) (W m c))) e).trans (Cert.InProjSRefIdeal.Rows.v_at (X m c) (G m c) (W m c) y0 y1)).symm)
  generalize (outsAt0 m c t0_0).2.2.1 = f at h ⊢
  generalize Cert.InProjSRefIdeal.Rows.V (PROJ (X m c) (G m c) (W m c)) = z at h ⊢
  exact h

theorem final8 : (dats m 0 c).arrAt 8 cfg0.N = U (PROJ (X m c) (G m c) (W m c)) := by
  refine (dats m 0 c).arrAt_eq_of_covers 8 _ (by decide +kernel) fun t hf y => ?_
  idx_vars y
  obtain rfl := fin_N0 t
  rw [after0_8]
  have e : ((cfg0.win 8).blk t0_0).view.emb (ix2 y0 y1) = ix2 y0 y1 := by
    blk_ext [idx t0_0]
  have h := (Pay.out8_at m c y0 y1).trans ((row_block m c y0 _).trans
    ((congrArg (U (PROJ (X m c) (G m c) (W m c))) e).trans (Cert.InProjSRefIdeal.Rows.u_at (X m c) (G m c) (W m c) y0 y1)).symm)
  generalize (outsAt0 m c t0_0).2.2.2.1 = f at h ⊢
  generalize U (PROJ (X m c) (G m c) (W m c)) = z at h ⊢
  exact h

theorem final9 : (dats m 0 c).arrAt 9 cfg0.N = GA (PROJ (X m c) (G m c) (W m c)) := by
  refine (dats m 0 c).arrAt_eq_of_covers 9 _ (by decide +kernel) fun t hf y => ?_
  idx_vars y
  obtain rfl := fin_N0 t
  rw [after0_9]
  have e : ((cfg0.win 9).blk t0_0).view.emb (ix2 y0 y1) = ix2 y0 y1 := by
    blk_ext [idx t0_0]
  have h := (Pay.out9_at m c y0 y1).trans ((congrArg Ideal.logistic (row_block m c y0 _)).trans
    ((congrArg (GA (PROJ (X m c) (G m c) (W m c))) e).trans (Cert.InProjSRefIdeal.Rows.ga_at (X m c) (G m c) (W m c) y0 y1)).symm)
  generalize (outsAt0 m c t0_0).2.2.2.2.1 = f at h ⊢
  generalize GA (PROJ (X m c) (G m c) (W m c)) = z at h ⊢
  exact h

theorem final10 : (dats m 0 c).arrAt 10 cfg0.N = GS (PROJ (X m c) (G m c) (W m c)) := by
  refine (dats m 0 c).arrAt_eq_of_covers 10 _ (by decide +kernel) fun t hf y => ?_
  idx_vars y
  obtain rfl := fin_N0 t
  rw [after0_10]
  have e : ((cfg0.win 10).blk t0_0).view.emb (ix2 y0 y1) = ix2 y0 y1 := by
    blk_ext [idx t0_0]
  have h := (Pay.out10_at m c y0 y1).trans ((congrArg Ideal.logistic (row_block m c y0 _)).trans
    ((congrArg (GS (PROJ (X m c) (G m c) (W m c))) e).trans (Cert.InProjSRefIdeal.Rows.gs_at (X m c) (G m c) (W m c) y0 y1)).symm)
  generalize (outsAt0 m c t0_0).2.2.2.2.2.1 = f at h ⊢
  generalize GS (PROJ (X m c) (G m c) (W m c)) = z at h ⊢
  exact h

theorem final11 : (dats m 0 c).arrAt 11 cfg0.N = WCAST (W m c) := by
  refine (dats m 0 c).arrAt_eq_of_covers 11 _ (by decide +kernel) fun t hf y => ?_
  idx_vars y
  obtain rfl := fin_N0 t
  rw [after0_11]
  have e : ((cfg0.win 11).blk t0_0).view.emb (ix2 y0 y1) = ix2 y0 y1 := by
    blk_ext [idx t0_0]
  have h := (Pay.out11_at m c y0 y1).trans ((w_block m c y0 y1).trans
    ((congrArg (WCAST (W m c)) e).trans (Cert.InProjSRefIdeal.Rows.wcast_at (W m c) y0 y1)).symm)
  generalize (outsAt0 m c t0_0).2.2.2.2.2.2 = f at h ⊢
  generalize WCAST (W m c) = z at h ⊢
  exact h

end Cert.InProjSIdeal.Whole

end
-- ==== Proof.InProjSClaim.lean ====
/- The claims about the sampled token's input projection. -/
module

public import proofs.«01_k».proof.Defs
public import proofs.«01_k».proof.Proof.InProjSVal
public import proofs.«01_k».proof.Proof.Gen.InProjSIdeal.Frame
public import proofs.«01_k».proof.Proof.Gen.InProjSRefIdeal.Run

@[expose] public section

set_option maxRecDepth 16384

noncomputable section

open Idealize.ShloMosaic Idealize.ShloMosaic.TcCoe Idealize.SL.Sem

namespace Cert.InProjSIdeal.Whole

open Cert.InProjSIdeal Cert.InProjSIdeal.Gen
open Cert.InProjSRefIdeal.Rows (PROJ Q K U GA GS WCAST)

set_option maxHeartbeats 2000000 in
/-- The kernel's run. -/
theorem results (m : (ℓ : Loc nD τ sig) → Buf (Elt Ideal) ℓ) (ρ : Dev nD → PrngReg)
    (x : Dev nD → FVec Ideal S32x1x1024 .f32) (g : Dev nD → FVec Ideal S1x1024 .f32) (w : Dev nD → FVec Ideal S1x1024x4096 .f32)
    (h : (∀ c : Dev nD, m ((c.tc : Thread nD τ).loc main_arg0) = x c
      ∧ m ((c.tc : Thread nD τ).loc main_arg1) = g c
      ∧ m ((c.tc : Thread nD τ).loc main_arg2) = w c)) :
    θ_run defs (onTc (τ := τ) (main (F := Ideal))) ⟨m, fun _ => 0, ρ⟩ fun r => ∀ c : Dev nD,
      r.2.mem ((c.tc : Thread nD τ).loc main_v26_0) = Q (PROJ (x c) (g c) (w c))
      ∧ r.2.mem ((c.tc : Thread nD τ).loc main_v26_1) = K (PROJ (x c) (g c) (w c))
      ∧ r.2.mem ((c.tc : Thread nD τ).loc main_v26_2) = Cert.InProjSRefIdeal.Rows.V (PROJ (x c) (g c) (w c))
      ∧ r.2.mem ((c.tc : Thread nD τ).loc main_v26_3) = U (PROJ (x c) (g c) (w c))
      ∧ r.2.mem ((c.tc : Thread nD τ).loc main_v26_4) = GA (PROJ (x c) (g c) (w c))
      ∧ r.2.mem ((c.tc : Thread nD τ).loc main_v26_5) = GS (PROJ (x c) (g c) (w c))
      ∧ r.2.mem ((c.tc : Thread nD τ).loc main_v26_6) = WCAST (w c) := by
  have hx : x = fun c : Dev nD => m ((c.tc : Thread nD τ).loc main_arg0) := funext fun c => (h c).1.symm
  have hg : g = fun c : Dev nD => m ((c.tc : Thread nD τ).loc main_arg1) := funext fun c => (h c).2.1.symm
  have hw : w = fun c : Dev nD => m ((c.tc : Thread nD τ).loc main_arg2) := funext fun c => (h c).2.2.symm
  subst hx hg hw
  exact (θ_run defs _ _).mono (fun r k c => ⟨(k c).1.trans (final5 m c), (k c).2.1.trans (final6 m c),
    (k c).2.2.1.trans (final7 m c), (k c).2.2.2.1.trans (final8 m c), (k c).2.2.2.2.1.trans (final9 m c),
    (k c).2.2.2.2.2.1.trans (final10 m c), (k c).2.2.2.2.2.2.1.trans (final11 m c)⟩) (Value.run_blocks m ρ)

end Cert.InProjSIdeal.Whole

namespace Cert.InProjSRefIdeal.Rows

open Cert.InProjSRefIdeal Cert.InProjSRefIdeal.Gen

/-- The reference's run. -/
theorem results (m : (ℓ : Loc nD τ sig) → Buf (Elt Ideal) ℓ) (ρ : Dev nD → PrngReg)
    (x : Dev nD → FVec Ideal S32x1x1024 .f32) (g : Dev nD → FVec Ideal S1x1024 .f32) (w : Dev nD → FVec Ideal S1x1024x4096 .f32)
    (h : (∀ c : Dev nD, m ((c.tc : Thread nD τ).loc main_arg0) = x c
      ∧ m ((c.tc : Thread nD τ).loc main_arg1) = g c
      ∧ m ((c.tc : Thread nD τ).loc main_arg2) = w c)) :
    θ_run defs (onTc (τ := τ) (main (F := Ideal))) ⟨m, fun _ => 0, ρ⟩ fun r => ∀ c : Dev nD,
      r.2.mem ((c.tc : Thread nD τ).loc main_v100) = Q (PROJ (x c) (g c) (w c))
      ∧ r.2.mem ((c.tc : Thread nD τ).loc main_v101) = K (PROJ (x c) (g c) (w c))
      ∧ r.2.mem ((c.tc : Thread nD τ).loc main_v102) = V (PROJ (x c) (g c) (w c))
      ∧ r.2.mem ((c.tc : Thread nD τ).loc main_v103) = U (PROJ (x c) (g c) (w c))
      ∧ r.2.mem ((c.tc : Thread nD τ).loc main_v105) = GA (PROJ (x c) (g c) (w c))
      ∧ r.2.mem ((c.tc : Thread nD τ).loc main_v107) = GS (PROJ (x c) (g c) (w c))
      ∧ r.2.mem ((c.tc : Thread nD τ).loc main_v109) = WCAST (w c) := by
  have hx : x = fun c : Dev nD => m ((c.tc : Thread nD τ).loc main_arg0) := funext fun c => (h c).1.symm
  have hg : g = fun c : Dev nD => m ((c.tc : Thread nD τ).loc main_arg1) := funext fun c => (h c).2.1.symm
  have hw : w = fun c : Dev nD => m ((c.tc : Thread nD τ).loc main_arg2) := funext fun c => (h c).2.2.symm
  subst hx hg hw
  exact (θ_run defs _ _).mono (fun r k c => ⟨(k c).1, (k c).2.1, (k c).2.2.1, (k c).2.2.2.1, (k c).2.2.2.2.1,
    (k c).2.2.2.2.2.1, (k c).2.2.2.2.2.2.1⟩) (Cert.InProjSRefIdeal.Value.run m ρ)

end Cert.InProjSRefIdeal.Rows

namespace Cert.Proof

open Cert.InProjSRefIdeal.Rows (PROJ Q K U GA GS WCAST)

/-- The reference keeps its arguments. -/
theorem inproj_s_ref : Cert.quiescent_InProjSRefIdeal := fun m g _ => (θ_run Cert.InProjSRefIdeal.defs _ _).mono
  (fun r h => ⟨fun c => (h c).2.2.2.2.2.2.2, sem_eq_zero_of_no_sems (sig := Cert.InProjSRefIdeal.sig) (by decide) _⟩)
  (Cert.InProjSRefIdeal.Value.run m g)

/-- Every result of the kernel is the reference's: both runs leave the same seven arrays of the arguments. -/
theorem inproj_s_algebraic : Cert.algebraic_InProjSIdeal_InProjSRefIdeal := by
  intro m g m' g' hpre hagree
  have hk := Cert.InProjSIdeal.Whole.results m g _ _ _ (fun c => ⟨rfl, rfl, rfl⟩)
  have hr := Cert.InProjSRefIdeal.Rows.results m' g' _ _ _ hagree
  have hr' := inproj_s_ref m' g' trivial
  have hk' := Cert.InProjSIdeal.Gen.frame m g
  let p (c : Dev Cert.InProjSIdeal.nD) := PROJ (m ((c.tc : Thread Cert.InProjSIdeal.nD Cert.InProjSIdeal.τ).loc Cert.InProjSIdeal.main_arg0))
    (m ((c.tc : Thread Cert.InProjSIdeal.nD Cert.InProjSIdeal.τ).loc Cert.InProjSIdeal.main_arg1))
    (m ((c.tc : Thread Cert.InProjSIdeal.nD Cert.InProjSIdeal.τ).loc Cert.InProjSIdeal.main_arg2))
  refine ⟨fun c => Q (p c), fun c => K (p c), fun c => Cert.InProjSRefIdeal.Rows.V (p c), fun c => U (p c),
    fun c => GA (p c), fun c => GS (p c),
    fun c => WCAST (m ((c.tc : Thread Cert.InProjSIdeal.nD Cert.InProjSIdeal.τ).loc Cert.InProjSIdeal.main_arg2)),
    (θ_run Cert.InProjSIdeal.defs _ _).mono (fun r h c => ?_) (θ_run_and hk hk'),
    (θ_run Cert.InProjSRefIdeal.defs _ _).mono (fun r h c => ?_) (θ_run_and hr hr')⟩
  · obtain ⟨h0, h1, h2, h3, h4, h5, h6⟩ := h.1 c
    exact ⟨h0, h1, h2, h3, h4, h5, h6, h.2.1 c⟩
  · obtain ⟨h0, h1, h2, h3, h4, h5, h6⟩ := h.1 c
    refine ⟨h0, h1, h2, h3, h4, h5, h6, ?_⟩
    exact h.2.1 c

end Cert.Proof

end
-- ==== Proof.StepRow.lean ====
/- One step of the recurrence, in plain arithmetic: the decay of a state, the discretised input weight, the new state. -/
module

public import proofs.«01_k».proof.Proof.Rows

@[expose] public section

noncomputable section

open Idealize.ShloMosaic

namespace Cert.StepRow

/-- The decay over a step, real and imaginary: of the state's pole and the group's log step. -/
def dre (a b l : EReal) : EReal := Ideal.exp (a * Ideal.exp l) * Ideal.cos (b * Ideal.exp l)
def dim (a b l : EReal) : EReal := Ideal.exp (a * Ideal.exp l) * Ideal.sin (b * Ideal.exp l)

/-- The scale the discretisation puts on an input weight. -/
def sre (a b l : EReal) : EReal := Ideal.div ((dre a b l - 1) * a + dim a b l * b) (a * a + b * b)
def sim (a b l : EReal) : EReal := Ideal.div (dim a b l * a - (dre a b l - 1) * b) (a * a + b * b)

/-- The discretised input weight. -/
def wre (a b l x y : EReal) : EReal := sre a b l * x - sim a b l * y
def wim (a b l x y : EReal) : EReal := sre a b l * y + sim a b l * x

variable (u : Fin 32 → Fin 512 → EReal) (a b : Fin 32 → Fin 64 → EReal) (l : Fin 32 → EReal)
  (x y : Fin 32 → Fin 64 → Fin 16 → EReal) (h k : Fin 32 → Fin 32 → Fin 64 → EReal)

/-- The new state of sequence `n`, group `g`, position `p`. -/
def re (n g : Fin 32) (p : Fin 64) : EReal :=
  ∑ c : Fin 16, u n ⟨g.val * 16 + c.val, by omega⟩ * wre (a g p) (b g p) (l g) (x g p c) (y g p c)
    + (dre (a g p) (b g p) (l g) * h n g p - dim (a g p) (b g p) (l g) * k n g p)
def im (n g : Fin 32) (p : Fin 64) : EReal :=
  ∑ c : Fin 16, u n ⟨g.val * 16 + c.val, by omega⟩ * wim (a g p) (b g p) (l g) (x g p c) (y g p c)
    + (dre (a g p) (b g p) (l g) * k n g p + dim (a g p) (b g p) (l g) * h n g p)

/-- The new states as they are kept: eight groups to a slice, the real parts before the imaginary ones. -/
def new (s : Fin 4) (n : Fin 32) (q : Fin 1024) : EReal :=
  if q.val < 512 then re u a b l x y h k n ⟨s.val * 8 + q.val % 512 / 64, by omega⟩ ⟨q.val % 64, by omega⟩
  else im u a b l x y h k n ⟨s.val * 8 + q.val % 512 / 64, by omega⟩ ⟨q.val % 64, by omega⟩

/-- A sum over the positions kept by the group's mask is the sum over the group's sixteen. -/
theorem sum_group (f : Fin 128 → EReal) (g : Nat) (hg : g < 8) :
    (∑ r : Fin 128, if r.val / 16 = g then f r else 0) = ∑ c : Fin 16, f ⟨g * 16 + c.val, by omega⟩ := by
  rw [← Finset.sum_filter]
  symm
  refine Finset.sum_bij (fun c _ => (⟨g * 16 + c.val, by omega⟩ : Fin 128)) (fun c _ => ?_) (fun c _ d _ e => ?_) (fun r hr => ?_)
    (fun c _ => rfl)
  · simp only [Finset.mem_filter, Finset.mem_univ, true_and]; omega
  · have := congrArg Fin.val e
    simp only at this
    exact Fin.ext (by omega)
  · simp only [Finset.mem_filter, Finset.mem_univ, true_and] at hr
    exact ⟨⟨r.val % 16, by omega⟩, Finset.mem_univ _, Fin.ext (by simp only; omega)⟩

/-- A column picked by a product with ones and zeros. -/
theorem sum_pick (f : Fin 128 → EReal) (j : Fin 128) : (∑ k : Fin 128, f k * if k = j then 1 else 0) = f j := by
  rw [Finset.sum_eq_single j]
  · rw [if_pos rfl, mul_one]
  · intro k _ hk; rw [if_neg hk, mul_zero]
  · intro hj; exact absurd (Finset.mem_univ _) hj

theorem exp_zero : Ideal.exp 0 = 1 := by
  change ((Real.exp 0 : ℝ) : EReal) = 1
  rw [Real.exp_zero, EReal.coe_one]
theorem cos_zero : Ideal.cos 0 = 1 := by
  change ((Real.cos 0 : ℝ) : EReal) = 1
  rw [Real.cos_zero, EReal.coe_one]
theorem sin_zero : Ideal.sin 0 = 0 := by
  change ((Real.sin 0 : ℝ) : EReal) = 0
  rw [Real.sin_zero, EReal.coe_zero]

end Cert.StepRow

end
-- ==== Proof.StepPay.lean ====
/- The recurrence's step: the payloads stored in the states' window, read at one entry. -/
module

public import proofs.«01_k».proof.Proof.Gen.StepIdeal.Skeleton
public import proofs.«01_k».proof.Proof.StepRow

@[expose] public section

set_option maxRecDepth 16384

noncomputable section

open Idealize.ShloMosaic Idealize.ShloMosaic.TcCoe Idealize.SL.Sem

namespace Cert.StepIdeal.Pay

open Cert.StepIdeal Cert.StepIdeal.Gen

/-! ## The masks -/

theorem shr6 : ∀ k : Fin 128, IntOp.shrsi ArithUnit.vector (BitVec.ofNat 32 k.val) 6#32 = BitVec.ofNat 32 (k.val / 64) := by decide +kernel
theorem and63 : ∀ k : Fin 1024, IntOp.andi (BitVec.ofNat 32 k.val) 63#32 = BitVec.ofNat 32 (k.val % 64) := by decide +kernel
theorem shr9 : ∀ k : Fin 1024, IntOp.shrsi ArithUnit.vector (BitVec.ofNat 32 k.val) 9#32 = BitVec.ofNat 32 (k.val / 512) := by decide +kernel
theorem shr4 : ∀ k : Fin 128, IntOp.shrsi ArithUnit.vector (BitVec.ofNat 32 k.val) 4#32 = BitVec.ofNat 32 (k.val / 16) := by decide +kernel
theorem grp : ∀ k : Fin 1024, IntOp.shrsi ArithUnit.vector (IntOp.andi (BitVec.ofNat 32 k.val) 511#32) 6#32
    = BitVec.ofNat 32 (k.val % 512 / 64) := by decide +kernel

/-- Two small numbers' words are equal when the numbers are. -/
theorem cmp_small (i j : Nat) (hi : i < 1024) (hj : j < 1024) :
    IntOp.cmpi CmpIPredicate.eq (BitVec.ofNat 32 i) (BitVec.ofNat 32 j) = BitVec.ofBool (decide (i = j)) := by
  have h : (BitVec.ofNat 32 i = BitVec.ofNat 32 j) ↔ i = j := by
    constructor
    · intro e
      have := congrArg BitVec.toNat e
      simp only [BitVec.toNat_ofNat] at this
      omega
    · rintro rfl; rfl
  change BitVec.ofBool (BitVec.ofNat 32 i == BitVec.ofNat 32 j) = _
  congr 1
  by_cases e : i = j
  · subst e; simp
  · rw [decide_eq_false e]
    exact beq_eq_false_iff_ne.2 fun c => e (h.1 c)

/-- The column of the weight an entry of the state reads. -/
abbrev pick (q : Fin 1024) : Fin 128 := ⟨q.val / 512 * 64 + q.val % 64, by omega⟩

theorem onehot_at (k : Fin 128) (q : Fin 1024) : k0_pay4 (F := Ideal) (ix2 k q) = if k = pick q then 1 else 0 := by
  pointwise [k0_pay4]
  have h := and63 ⟨k.val, by omega⟩
  simp only at h
  rw [h, and63, shr6, shr9, cmp_small _ _ (by omega) (by omega), cmp_small _ _ (by omega) (by omega)]
  by_cases e : k = pick q
  · have e1 : k.val / 64 = q.val / 512 := by rw [e]; simp only [pick]; omega
    have e2 : k.val % 64 = q.val % 64 := by rw [e]; simp only [pick]; omega
    rw [if_pos e, decide_eq_true e1, decide_eq_true e2]
    rfl
  · rw [if_neg e]
    by_cases e1 : k.val / 64 = q.val / 512
    · have e2 : ¬ k.val % 64 = q.val % 64 := fun e2 => e (Fin.ext (by simp only [pick]; omega))
      rw [decide_eq_true e1, decide_eq_false e2]
      rfl
    · rw [decide_eq_false e1]
      cases decide (k.val % 64 = q.val % 64) <;> rfl

theorem mask_at (r : Fin 128) (q : Fin 1024) : k0_pay6 (ix2 r q) = BitVec.ofBool (decide (r.val / 16 = q.val % 512 / 64)) := by
  pointwise [k0_pay6]
  rw [shr4, grp, cmp_small _ _ (by omega) (by omega)]

/-! ## A slice's states -/

section

variable (M : Fin 128 → Fin 128 → EReal) (U : Fin 32 → Fin 128 → EReal) (h : Fin 32 → Fin 1024 → EReal) (a i : Fin 512 → EReal)

/-- What the input adds to a state: the group's sixteen channels against the picked column. -/
def fed (n : Fin 32) (q : Fin 1024) : EReal :=
  ∑ c : Fin 16, U n ⟨q.val % 512 / 64 * 16 + c.val, by omega⟩ * M ⟨q.val % 512 / 64 * 16 + c.val, by omega⟩ (pick q)

/-- The slice's new states. -/
def slice (n : Fin 32) (q : Fin 1024) : EReal :=
  if hq : q.val < 512 then fed M U n q + a ⟨q.val, hq⟩ * h n q - i ⟨q.val, hq⟩ * h n ⟨512 + q.val, by omega⟩
  else fed M U n q + a ⟨q.val - 512, by omega⟩ * h n q + i ⟨q.val - 512, by omega⟩ * h n ⟨q.val - 512, by omega⟩

end

variable (M : FVec Ideal S1x128x128 .f32) (U : FVec Ideal S32x128 .f32) (h : FVec Ideal S1x32x1024 .f32) (a i : FVec Ideal S1x1x512 .f32)

/-- The same, of the blocks the body loads. -/
abbrev bfed (n : Fin 32) (q : Fin 1024) : EReal := fed (fun r k => M (ix3 0 r k)) (fun n r => U (ix2 n r)) n q
abbrev bslice (n : Fin 32) (q : Fin 1024) : EReal :=
  slice (fun r k => M (ix3 0 r k)) (fun n r => U (ix2 n r)) (fun n q => h (ix3 0 n q)) (fun q => a (ix3 0 0 q)) (fun q => i (ix3 0 0 q)) n q

theorem fed_of (e : FVec Ideal S128x1024 .bf16) (w : IVec S128x1024 1) (he : e = k0_pay4 (F := Ideal)) (hw : w = k0_pay6)
    (n : Fin 32) (q : Fin 1024) :
    ∑ r : Fin 128, U (ix2 n r) * Scalar.select (w (ix2 r q)) (∑ k : Fin 128, M (ix3 0 r k) * e (ix2 k q)) 0 = bfed M U n q := by
  subst he hw
  unfold bfed fed
  rw [← Cert.StepRow.sum_group (fun r => U (ix2 n r) * M (ix3 0 r (pick q))) (q.val % 512 / 64) (by omega)]
  refine Finset.sum_congr rfl fun r _ => ?_
  rw [mask_at]
  simp only [onehot_at]
  rw [Cert.StepRow.sum_pick (fun k => M (ix3 0 r k)) (pick q)]
  by_cases e : r.val / 16 = q.val % 512 / 64
  · rw [if_pos e, decide_eq_true e]; rfl
  · rw [if_neg e, decide_eq_false e]; exact mul_zero _

theorem fed12 (n : Fin 32) (q : Fin 1024) : k0_pay12 (F := Ideal) k0_pay4 k0_pay6 M U (ix2 n q) = bfed M U n q := by
  refine Eq.trans ?_ (fed_of M U _ _ rfl rfl n q)
  generalize k0_pay4 (F := Ideal) = e
  generalize k0_pay6 = w
  pointwise [k0_pay12, k0_pay10]

theorem fed20 (n : Fin 32) (q : Fin 1024) : k0_pay20 (F := Ideal) k0_pay4 k0_pay6 M U (ix2 n q) = bfed M U n q := by
  refine Eq.trans ?_ (fed_of M U _ _ rfl rfl n q)
  generalize k0_pay4 (F := Ideal) = e
  generalize k0_pay6 = w
  pointwise [k0_pay20, k0_pay18]

theorem fed42 (n : Fin 32) (q : Fin 1024) : k0_pay42 (F := Ideal) k0_pay4 k0_pay6 M U (ix2 n q) = bfed M U n q := by
  refine Eq.trans ?_ (fed_of M U _ _ rfl rfl n q)
  generalize k0_pay4 (F := Ideal) = e
  generalize k0_pay6 = w
  pointwise [k0_pay42, k0_pay40]

/-- The four slices' stores. -/
theorem slice0 (n : Fin 32) (q : Fin 1024) :
    k0_pay13 (F := Ideal) (k0_pay11 (F := Ideal) h) (k0_pay12 (F := Ideal) k0_pay4 k0_pay6 M U) a i (ix3 0 n q) = bslice M U h a i n q := by
  unfold bslice slice
  simp only [fun n q => (fed12 M U n q).symm]
  generalize k0_pay12 (F := Ideal) k0_pay4 k0_pay6 M U = X
  pointwise [k0_pay13, k0_pay11]
  split
  · rfl
  · have e : (⟨512 + (q.val - 512), by omega⟩ : Fin 1024) = q := Fin.ext (by simp only; omega)
    rw [e]

theorem slice1 (n : Fin 32) (q : Fin 1024) :
    k0_pay28 (F := Ideal) (k0_pay23 (F := Ideal) h) (k0_pay25 (F := Ideal) k0_pay4 k0_pay6 M U h a i)
      (k0_pay26 (F := Ideal) k0_pay4 k0_pay6 M U h a) (k0_pay27 (F := Ideal) i) (ix3 0 n q) = bslice M U h a i n q := by
  unfold bslice slice k0_pay25 k0_pay26
  simp only [fun n q => (fed20 M U n q).symm]
  generalize k0_pay20 (F := Ideal) k0_pay4 k0_pay6 M U = X
  pointwise [k0_pay28, k0_pay23, k0_pay27, k0_pay24, k0_pay19, k0_pay21, k0_pay22]
  split
  · rfl
  · have e : (⟨512 + (q.val - 512), by omega⟩ : Fin 1024) = q := Fin.ext (by simp only; omega)
    rw [e]

theorem slice2 (n : Fin 32) (q : Fin 1024) :
    k0_pay36 (F := Ideal) (k0_pay31 (F := Ideal) k0_pay4 k0_pay6 M) U h a i (ix3 0 n q) = bslice M U h a i n q := by
  unfold bslice slice
  simp only [← fed_of M U _ _ rfl rfl]
  generalize k0_pay4 (F := Ideal) = e
  generalize k0_pay6 = w
  pointwise [k0_pay36, k0_pay31, k0_pay34, k0_pay35]
  split
  · rfl
  · have e : (⟨512 + (q.val - 512), by omega⟩ : Fin 1024) = q := Fin.ext (by simp only; omega)
    rw [e]

theorem slice3 (n : Fin 32) (q : Fin 1024) :
    k0_pay1 (F := Ideal) (k0_pay41 (F := Ideal) h) (k0_pay42 (F := Ideal) k0_pay4 k0_pay6 M U) (k0_pay43 (F := Ideal) a) (k0_pay44 (F := Ideal) i)
      (ix3 0 n q) = bslice M U h a i n q := by
  unfold bslice slice
  simp only [fun n q => (fed42 M U n q).symm]
  generalize k0_pay42 (F := Ideal) k0_pay4 k0_pay6 M U = X
  pointwise [k0_pay1, k0_pay41, k0_pay43, k0_pay44]
  split
  · rfl
  · have e : (⟨512 + (q.val - 512), by omega⟩ : Fin 1024) = q := Fin.ext (by simp only; omega)
    rw [e]

end Cert.StepIdeal.Pay

end
-- ==== Proof.StepOut.lean ====
/- The recurrence's step: what the body leaves in the states' window. -/
module

public import proofs.«01_k».proof.Proof.Gen.StepIdeal.Value
public import Idealize.ShloMosaic.Lib.Claim
public import proofs.«01_k».proof.Proof.StepPay

@[expose] public section

set_option maxRecDepth 16384

noncomputable section

open Idealize.ShloMosaic Idealize.ShloMosaic.TcCoe Idealize.SL.Sem

namespace Cert.StepIdeal.Pay

open Cert.StepIdeal Cert.StepIdeal.Gen

variable (w0 : Vec Ideal S32x512 .f32) (w1 : Vec Ideal S4x128x128 .f32) (w2 w3 : Vec Ideal S4x1024x128 .f32) (w4 : Vec Ideal S4x1x1024 .f32)
  (w5 : Vec Ideal S1x512 .f32) (w6 : Vec Ideal S4x32x1024 .f32)

/-- Slice `s` of the blocks, as the body reads it. -/
abbrev at_s (s : Fin 4) (n : Fin 32) (q : Fin 1024) : EReal :=
  slice (fun r k => w2 (ix3 s ⟨896 + r.val, by omega⟩ k)) (fun n r => w0 (ix2 n ⟨128 * s.val + r.val, by omega⟩)) (fun n q => w6 (ix3 s n q))
    (fun q => w4 (ix3 s 0 ⟨q.val, by omega⟩)) (fun q => w4 (ix3 s 0 ⟨512 + q.val, by omega⟩)) n q

/-- Loads of the same entries leave the same states. -/
theorem slice_congr {M M' : Fin 128 → Fin 128 → EReal} {U U' : Fin 32 → Fin 128 → EReal} {h h' : Fin 32 → Fin 1024 → EReal}
    {a a' i i' : Fin 512 → EReal} (hM : ∀ r k, M r k = M' r k) (hU : ∀ n r, U n r = U' n r) (hh : ∀ n q, h n q = h' n q)
    (ha : ∀ q, a q = a' q) (hi : ∀ q, i q = i' q) (n : Fin 32) (q : Fin 1024) : slice M U h a i n q = slice M' U' h' a' i' n q := by
  rw [show M = M' from funext fun r => funext (hM r), show U = U' from funext fun r => funext (hU r),
    show h = h' from funext fun r => funext (hh r), show a = a' from funext ha, show i = i' from funext hi]

theorem out_at (s : Fin 4) (n : Fin 32) (q : Fin 1024) :
    out0_8 (F := Ideal) w0 w1 w2 w3 w4 w5 w6 (ix3 s n q) = at_s w0 w2 w4 w6 s n q := by
  unfold_out out0_8
  canon_tiles x h
  all_goals
    change s.val = _ at h0
    change n.val = _ at h1
    change q.val = _ at h2
    idx_vars x
    obtain rfl : n = x1 := Fin.ext h1
    obtain rfl : q = x2 := Fin.ext h2
    obtain rfl : x0 = 0 := Fin.ext (by omega)
  · obtain rfl : s = 3 := Fin.ext h0
    refine (slice3 _ _ _ _ _ n q).trans (slice_congr (fun r k => ?_) (fun n r => ?_) (fun n q => ?_) (fun q => ?_) (fun q => ?_) n q)
    all_goals
      dsimp only [View.ld]
      blk_ext
      all_goals exact (Rect.idx_unit_val ..).trans (by first | rfl | exact Nat.zero_add _)
  · obtain rfl : s = 2 := Fin.ext h0
    refine (slice2 _ _ _ _ _ n q).trans (slice_congr (fun r k => ?_) (fun n r => ?_) (fun n q => ?_) (fun q => ?_) (fun q => ?_) n q)
    all_goals
      dsimp only [View.ld]
      blk_ext
      all_goals exact (Rect.idx_unit_val ..).trans (by first | rfl | exact Nat.zero_add _)
  · obtain rfl : s = 1 := Fin.ext h0
    refine (slice1 _ _ _ _ _ n q).trans (slice_congr (fun r k => ?_) (fun n r => ?_) (fun n q => ?_) (fun q => ?_) (fun q => ?_) n q)
    all_goals
      dsimp only [View.ld]
      blk_ext
      all_goals exact (Rect.idx_unit_val ..).trans (by first | rfl | exact Nat.zero_add _)
  · obtain rfl : s = 0 := Fin.ext h0
    refine (slice0 _ _ _ _ _ n q).trans (slice_congr (fun r k => ?_) (fun n r => ?_) (fun n q => ?_) (fun q => ?_) (fun q => ?_) n q)
    all_goals
      dsimp only [View.ld]
      blk_ext
      all_goals exact (Rect.idx_unit_val ..).trans (by first | rfl | exact Nat.zero_add _)

end Cert.StepIdeal.Pay

end
-- ==== Proof.StepRef.lean ====
/- The reference's step of the recurrence, cut at its own intermediate arrays, and its result read at one entry. -/
module

public import proofs.«01_k».proof.Proof.Gen.StepRefIdeal
public import Idealize.ShloMosaic.Lib.Claim
public import proofs.«01_k».proof.Proof.StepRow

@[expose] public section

set_option maxRecDepth 16384

noncomputable section

open Idealize.ShloMosaic Idealize.ShloMosaic.TcCoe Idealize.SL.Sem

namespace Cert.StepRefIdeal.Rows

open Cert.StepRefIdeal Cert.StepRefIdeal.Gen

variable (u : FVec Ideal S32x512 .f32) (a b : FVec Ideal S1x32x64 .f32) (l : FVec Ideal S1x32 .f32)
    (x y : FVec Ideal S1x32x64x16 .f32) (h k : FVec Ideal S1x32x32x64 .f32)

/-! ## The host's intermediate arrays -/

/-- A pole times its group's step, and the decays it gives. -/
def TIMES : FVec Ideal S32x64 .f32 :=
  mulf (shapeCast _ a shapeCasts_S1x32x64_S32x64) (broadcastInDim S32x64 ![0, 1] bcast_S32x1_S32x64_0_1
    (broadcastInDim S32x1 ![0] bcast_S32_S32x1_0 (Host.exp (shapeCast _ l shapeCasts_S1x32_S32))))
def DRE : FVec Ideal S32x64 .f32 := mulf (Host.exp (TIMES a l)) (Host.cos (TIMES b l))
def DIM : FVec Ideal S32x64 .f32 := mulf (Host.exp (TIMES a l)) (Host.sin (TIMES b l))

/-- The decay less one. -/
def LESS : FVec Ideal S32x64 .f32 :=
  subf (DRE a b l) (broadcastInDim S32x64 ![] bcast_S_S32x64 (constant S_ .f32 0x3F800000#32))

/-- The scale of the input weights. -/
def DEN : FVec Ideal S32x64 .f32 :=
  addf (mulf (shapeCast _ a shapeCasts_S1x32x64_S32x64) (shapeCast _ a shapeCasts_S1x32x64_S32x64))
    (mulf (shapeCast _ b shapeCasts_S1x32x64_S32x64) (shapeCast _ b shapeCasts_S1x32x64_S32x64))
def SRE : FVec Ideal S32x64 .f32 :=
  Host.divf (addf (mulf (LESS a b l) (shapeCast _ a shapeCasts_S1x32x64_S32x64))
    (mulf (DIM a b l) (shapeCast _ b shapeCasts_S1x32x64_S32x64))) (DEN a b)
def SIM : FVec Ideal S32x64 .f32 :=
  Host.divf (subf (mulf (DIM a b l) (shapeCast _ a shapeCasts_S1x32x64_S32x64))
    (mulf (LESS a b l) (shapeCast _ b shapeCasts_S1x32x64_S32x64))) (DEN a b)

/-- The discretised input weights. -/
def WIDE (t : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 t)
def WRE : FVec Ideal S32x64x16 .f32 :=
  subf (mulf (WIDE (SRE a b l)) (shapeCast _ x shapeCasts_S1x32x64x16_S32x64x16))
    (mulf (WIDE (SIM a b l)) (shapeCast _ y shapeCasts_S1x32x64x16_S32x64x16))
def WIM : FVec Ideal S32x64x16 .f32 :=
  addf (mulf (WIDE (SRE a b l)) (shapeCast _ y shapeCasts_S1x32x64x16_S32x64x16))
    (mulf (WIDE (SIM a b l)) (shapeCast _ x shapeCasts_S1x32x64x16_S32x64x16))

/-- The inputs through the weights, and the decays for every sequence. -/
def FED (w : FVec Ideal S32x64x16 .f32) : FVec Ideal S32x32x64 .f32 :=
  transpose S32x32x64 [1, 0, 2] (Host.dotGeneral dot_S32x32x16_S32x64x16_S32x32x64_2_2_0_1_1_0 none
    (shapeCast _ u shapeCasts_S32x512_S32x32x16) w) transposes_S32x32x64_S32x32x64_1_0_2
def ALL (t : FVec Ideal S32x64 .f32) : FVec Ideal S32x32x64 .f32 :=
  broadcastInDim S32x32x64 ![0, 1, 2] bcast_S1x32x64_S32x32x64_0_1_2 (broadcastInDim S1x32x64 ![1, 2] bcast_S32x64_S1x32x64_1_2 t)

/-- The new states, their real and imaginary parts, and both as they are kept. -/
def RE : FVec Ideal S32x32x64 .f32 :=
  addf (FED u (WRE a b l x y))
    (subf (mulf (ALL (DRE a b l)) (shapeCast _ h shapeCasts_S1x32x32x64_S32x32x64))
      (mulf (ALL (DIM a b l)) (shapeCast _ k shapeCasts_S1x32x32x64_S32x32x64)))
def IM : FVec Ideal S32x32x64 .f32 :=
  addf (FED u (WIM a b l x y))
    (addf (mulf (ALL (DRE a b l)) (shapeCast _ k shapeCasts_S1x32x32x64_S32x32x64))
      (mulf (ALL (DIM a b l)) (shapeCast _ h shapeCasts_S1x32x32x64_S32x32x64)))
def KEPT (p q : FVec Ideal S32x32x64 .f32) : FVec Ideal S4x32x1024 .f32 :=
  transpose S4x32x1024 [1, 0, 2] (concatenate S32x4x1024 2
    [⟨S32x4x512, shapeCast _ p shapeCasts_S32x32x64_S32x4x512⟩, ⟨S32x4x512, shapeCast _ q shapeCasts_S32x32x64_S32x4x512⟩]
    concatenates_S32x4x512_S32x4x512_S32x4x1024_d2) transposes_S32x4x1024_S4x32x1024_1_0_2
abbrev HF : FVec Ideal S4x32x1024 .f32 := KEPT (RE u a b l x y h k) (IM u a b l x y h k)

/-! ## Read at an entry -/

open Cert.StepRow (dre dim sre sim wre wim re im new)

theorem dre_at (g : Fin 32) (p : Fin 64) : DRE a b l (ix2 g p) = dre (a (ix3 0 g p)) (b (ix3 0 g p)) (l (ix2 0 g)) := by
  pointwise [DRE, TIMES, dre]
theorem dim_at (g : Fin 32) (p : Fin 64) : DIM a b l (ix2 g p) = dim (a (ix3 0 g p)) (b (ix3 0 g p)) (l (ix2 0 g)) := by
  pointwise [DIM, TIMES, dim]
theorem sre_at (g : Fin 32) (p : Fin 64) : SRE a b l (ix2 g p) = sre (a (ix3 0 g p)) (b (ix3 0 g p)) (l (ix2 0 g)) := by
  unfold sre
  simp only [← dre_at, ← dim_at]
  generalize hd : DRE a b l = d
  generalize he : DIM a b l = e
  pointwise [SRE, LESS, DEN, hd, he]
theorem sim_at (g : Fin 32) (p : Fin 64) : SIM a b l (ix2 g p) = sim (a (ix3 0 g p)) (b (ix3 0 g p)) (l (ix2 0 g)) := by
  unfold sim
  simp only [← dre_at, ← dim_at]
  generalize hd : DRE a b l = d
  generalize he : DIM a b l = e
  pointwise [SIM, LESS, DEN, hd, he]
theorem wre_at (g : Fin 32) (p : Fin 64) (c : Fin 16) :
    WRE a b l x y (ix3 g p c) = wre (a (ix3 0 g p)) (b (ix3 0 g p)) (l (ix2 0 g)) (x (ix4 0 g p c)) (y (ix4 0 g p c)) := by
  unfold wre
  simp only [← sre_at, ← sim_at]
  generalize hd : SRE a b l = d
  generalize he : SIM a b l = e
  pointwise [WRE, WIDE, hd, he]
theorem wim_at (g : Fin 32) (p : Fin 64) (c : Fin 16) :
    WIM a b l x y (ix3 g p c) = wim (a (ix3 0 g p)) (b (ix3 0 g p)) (l (ix2 0 g)) (x (ix4 0 g p c)) (y (ix4 0 g p c)) := by
  unfold wim
  simp only [← sre_at, ← sim_at]
  generalize hd : SRE a b l = d
  generalize he : SIM a b l = e
  pointwise [WIM, WIDE, hd, he]

/-- The arguments as functions of their places, and the new states of them. -/
abbrev real (n g : Fin 32) (p : Fin 64) : EReal :=
  re (fun n j => u (ix2 n j)) (fun g p => a (ix3 0 g p)) (fun g p => b (ix3 0 g p)) (fun g => l (ix2 0 g))
    (fun g p c => x (ix4 0 g p c)) (fun g p c => y (ix4 0 g p c)) (fun n g p => h (ix4 0 n g p)) (fun n g p => k (ix4 0 n g p)) n g p
abbrev imag (n g : Fin 32) (p : Fin 64) : EReal :=
  im (fun n j => u (ix2 n j)) (fun g p => a (ix3 0 g p)) (fun g p => b (ix3 0 g p)) (fun g => l (ix2 0 g))
    (fun g p c => x (ix4 0 g p c)) (fun g p c => y (ix4 0 g p c)) (fun n g p => h (ix4 0 n g p)) (fun n g p => k (ix4 0 n g p)) n g p
abbrev state (s : Fin 4) (n : Fin 32) (q : Fin 1024) : EReal :=
  new (fun n j => u (ix2 n j)) (fun g p => a (ix3 0 g p)) (fun g p => b (ix3 0 g p)) (fun g => l (ix2 0 g))
    (fun g p c => x (ix4 0 g p c)) (fun g p c => y (ix4 0 g p c)) (fun n g p => h (ix4 0 n g p)) (fun n g p => k (ix4 0 n g p)) s n q

theorem re_at (n g : Fin 32) (p : Fin 64) : RE u a b l x y h k (ix3 n g p) = real u a b l x y h k n g p := by
  unfold real re
  simp only [← dre_at, ← dim_at, ← wre_at]
  generalize hd : DRE a b l = d
  generalize he : DIM a b l = e
  generalize hw : WRE a b l x y = w
  pointwise [RE, FED, ALL, hd, he, hw]
theorem im_at (n g : Fin 32) (p : Fin 64) : IM u a b l x y h k (ix3 n g p) = imag u a b l x y h k n g p := by
  unfold imag im
  simp only [← dre_at, ← dim_at, ← wim_at]
  generalize hd : DRE a b l = d
  generalize he : DIM a b l = e
  generalize hw : WIM a b l x y = w
  pointwise [IM, FED, ALL, hd, he, hw]

theorem hf_at (s : Fin 4) (n : Fin 32) (q : Fin 1024) : HF u a b l x y h k (ix3 s n q) = state u a b l x y h k s n q := by
  unfold HF state new
  have e1 : re _ _ _ _ _ _ _ _ n ⟨s.val * 8 + q.val % 512 / 64, by omega⟩ ⟨q.val % 64, by omega⟩ = _ :=
    (re_at u a b l x y h k n ⟨s.val * 8 + q.val % 512 / 64, by omega⟩ ⟨q.val % 64, by omega⟩).symm
  have e2 : im _ _ _ _ _ _ _ _ n ⟨s.val * 8 + q.val % 512 / 64, by omega⟩ ⟨q.val % 64, by omega⟩ = _ :=
    (im_at u a b l x y h k n ⟨s.val * 8 + q.val % 512 / 64, by omega⟩ ⟨q.val % 64, by omega⟩).symm
  rw [e1, e2]
  generalize RE u a b l x y h k = r
  generalize IM u a b l x y h k = i
  pointwise [KEPT]
  split
  · exact congrArg r ((ix3_inj ..).2 ⟨rfl, Fin.ext (by simp only; omega), rfl⟩)
  · exact congrArg i ((ix3_inj ..).2 ⟨rfl, Fin.ext (by simp only; omega), Fin.ext (by simp only; omega)⟩)

end Cert.StepRefIdeal.Rows

end
-- ==== Proof.StepVal.lean ====
/- The recurrence's step: what its windows hold, and the new states' array whole, as the reference's. -/
module

public import proofs.«01_k».proof.Proof.StepOut
public import Idealize.ShloMosaic.Lib.Claim
public import proofs.«01_k».proof.Proof.StepRef

@[expose] public section

set_option maxRecDepth 16384

noncomputable section

open Idealize.ShloMosaic Idealize.ShloMosaic.TcCoe Idealize.SL.Sem
open Idealize.ShloMosaic.Pipeline (Dat)

namespace Cert.StepIdeal.Whole

open Cert.StepIdeal Cert.StepIdeal.Gen
open Cert.StepRow (dre dim sre sim wre wim re im new)

variable (m : (ℓ : Loc nD τ sig) → Buf (Elt Ideal) ℓ) (c : Dev nD)

/-- The arguments. -/
abbrev U : FVec Ideal S32x512 .f32 := m ((c.tc : Thread nD τ).loc main_arg0)
abbrev A : FVec Ideal S1x32x64 .f32 := m ((c.tc : Thread nD τ).loc main_arg1)
abbrev B : FVec Ideal S1x32x64 .f32 := m ((c.tc : Thread nD τ).loc main_arg2)
abbrev L : FVec Ideal S1x32 .f32 := m ((c.tc : Thread nD τ).loc main_arg3)
abbrev X : FVec Ideal S1x32x64x16 .f32 := m ((c.tc : Thread nD τ).loc main_arg4)
abbrev Y : FVec Ideal S1x32x64x16 .f32 := m ((c.tc : Thread nD τ).loc main_arg5)
abbrev H : FVec Ideal S1x32x32x64 .f32 := m ((c.tc : Thread nD τ).loc main_arg9)
abbrev K : FVec Ideal S1x32x32x64 .f32 := m ((c.tc : Thread nD τ).loc main_arg10)

theorem V_h (s : Fin 4) (n : Fin 32) (q : Fin 1024) :
    V m c main_v176 (ix3 s n q) = if q.val < 512 then H m c (ix4 0 n ⟨s.val * 8 + q.val % 512 / 64, by omega⟩ ⟨q.val % 64, by omega⟩)
      else K m c (ix4 0 n ⟨s.val * 8 + q.val % 512 / 64, by omega⟩ ⟨q.val % 64, by omega⟩) := by
  entry_read
  pointwise []
  split
  · exact congrArg (H m c) ((ix4_inj ..).2 ⟨rfl, rfl, Fin.ext (by simp only; omega), rfl⟩)
  · exact congrArg (K m c) ((ix4_inj ..).2 ⟨rfl, rfl, Fin.ext (by simp only; omega), Fin.ext (by simp only; omega)⟩)

set_option maxHeartbeats 1000000 in
theorem V_are (s : Fin 4) (q : Fin 512) :
    V m c main_v170 (ix3 s 0 ⟨q.val, by omega⟩)
      = dre (A m c (ix3 0 ⟨s.val * 8 + q.val / 64, by omega⟩ ⟨q.val % 64, by omega⟩)) (B m c (ix3 0 ⟨s.val * 8 + q.val / 64, by omega⟩ ⟨q.val % 64, by omega⟩))
          (L m c (ix2 0 ⟨s.val * 8 + q.val / 64, by omega⟩)) := by
  unfold dre
  entry_read
  pointwise []

set_option maxHeartbeats 1000000 in
theorem V_aim (s : Fin 4) (q : Fin 512) :
    V m c main_v170 (ix3 s 0 ⟨512 + q.val, by omega⟩)
      = dim (A m c (ix3 0 ⟨s.val * 8 + q.val / 64, by omega⟩ ⟨q.val % 64, by omega⟩)) (B m c (ix3 0 ⟨s.val * 8 + q.val / 64, by omega⟩ ⟨q.val % 64, by omega⟩))
          (L m c (ix2 0 ⟨s.val * 8 + q.val / 64, by omega⟩)) := by
  have e : 512 + q.val - 512 = q.val := by omega
  unfold dim
  entry_read
  pointwise [e]

/-- The exponent of no steps. -/
theorem no_steps : (FloatOps.sitofp (F := Ideal) FTy.f32 (0#32) : EReal) = 0 := by
  change ((((0#32 : BitVec 32).toInt : ℝ)) : EReal) = 0
  simp

/-- The last sixteen-row blocks of the stacked input weights are the weights undecayed. -/
theorem V_m (s : Fin 4) (r k : Fin 128) :
    V m c main_v128 (ix3 s ⟨896 + r.val, by omega⟩ k)
      = if k.val < 64 then
          wre (A m c (ix3 0 ⟨s.val * 8 + r.val / 16, by omega⟩ ⟨k.val % 64, by omega⟩)) (B m c (ix3 0 ⟨s.val * 8 + r.val / 16, by omega⟩ ⟨k.val % 64, by omega⟩))
            (L m c (ix2 0 ⟨s.val * 8 + r.val / 16, by omega⟩))
            (X m c (ix4 0 ⟨s.val * 8 + r.val / 16, by omega⟩ ⟨k.val % 64, by omega⟩ ⟨r.val % 16, by omega⟩))
            (Y m c (ix4 0 ⟨s.val * 8 + r.val / 16, by omega⟩ ⟨k.val % 64, by omega⟩ ⟨r.val % 16, by omega⟩))
        else
          wim (A m c (ix3 0 ⟨s.val * 8 + r.val / 16, by omega⟩ ⟨k.val % 64, by omega⟩)) (B m c (ix3 0 ⟨s.val * 8 + r.val / 16, by omega⟩ ⟨k.val % 64, by omega⟩))
            (L m c (ix2 0 ⟨s.val * 8 + r.val / 16, by omega⟩))
            (X m c (ix4 0 ⟨s.val * 8 + r.val / 16, by omega⟩ ⟨k.val % 64, by omega⟩ ⟨r.val % 16, by omega⟩))
            (Y m c (ix4 0 ⟨s.val * 8 + r.val / 16, by omega⟩ ⟨k.val % 64, by omega⟩ ⟨r.val % 16, by omega⟩)) := by
  have e1 : (896 + r.val) / 16 % 8 = r.val / 16 := by omega
  have e2 : (896 + r.val) % 16 = r.val % 16 := by omega
  have e3 : (896 + r.val) / 128 = 7 := by omega
  entry_read
  pointwise [e1, e2, e3]
  simp only [no_steps, mul_zero, Cert.StepRow.exp_zero, Cert.StepRow.cos_zero, Cert.StepRow.sin_zero, one_mul, mul_one, zero_mul, sub_zero,
    add_zero]
  by_cases hk : k.val < 64
  · have e4 : k.val % 64 = k.val := by omega
    simp only [dif_pos hk, if_pos hk, e4]
    rfl
  · have e4 : k.val % 64 = k.val - 64 := by omega
    simp only [dif_neg hk, if_neg hk, e4]
    rfl

/-- Every window stands at the origin. -/
theorem idx : ∀ t : Fin cfg0.N, win0_0.index t = ![0, 0] ∧ win0_2.index t = ![0, 0, 0] ∧ win0_4.index t = ![0, 0, 0]
    ∧ win0_6.index t = ![0, 0, 0] ∧ win0_8.index t = ![0, 0, 0] :=
  (by decide +kernel : ∀ t : Fin grid0.N, win0_0.index t = ![0, 0] ∧ win0_2.index t = ![0, 0, 0] ∧ win0_4.index t = ![0, 0, 0]
    ∧ win0_6.index t = ![0, 0, 0] ∧ win0_8.index t = ![0, 0, 0])

theorem u_block (n : Fin 32) (j : Fin 512) : iblk m c 0 t0_0 (ix2 n j) = U m c (ix2 n j) := by
  blk_ext [iblk, V, idx t0_0]
theorem m_block (s : Fin 4) (r : Fin 1024) (k : Fin 128) : iblk m c 2 t0_0 (ix3 s r k) = V m c main_v128 (ix3 s r k) := by
  blk_ext [iblk, idx t0_0]
theorem a_block (s : Fin 4) (q : Fin 1024) : iblk m c 4 t0_0 (ix3 s 0 q) = V m c main_v170 (ix3 s 0 q) := by
  blk_ext [iblk, idx t0_0]
theorem h_block (s : Fin 4) (n : Fin 32) (q : Fin 1024) : iblk m c 6 t0_0 (ix3 s n q) = V m c main_v176 (ix3 s n q) := by
  blk_ext [iblk, idx t0_0]

/-- What the input adds to a state, of the blocks, is what it adds of the arguments. -/
theorem fed_re (s : Fin 4) (n : Fin 32) (q : Fin 1024) (hq : q.val < 512) :
    Pay.fed (fun r k => iblk m c 2 t0_0 (ix3 s ⟨896 + r.val, by omega⟩ k)) (fun n r => iblk m c 0 t0_0 (ix2 n ⟨128 * s.val + r.val, by omega⟩)) n q
      = ∑ d : Fin 16, U m c (ix2 n ⟨(s.val * 8 + q.val % 512 / 64) * 16 + d.val, by omega⟩)
          * wre (A m c (ix3 0 ⟨s.val * 8 + q.val % 512 / 64, by omega⟩ ⟨q.val % 64, by omega⟩))
              (B m c (ix3 0 ⟨s.val * 8 + q.val % 512 / 64, by omega⟩ ⟨q.val % 64, by omega⟩)) (L m c (ix2 0 ⟨s.val * 8 + q.val % 512 / 64, by omega⟩))
              (X m c (ix4 0 ⟨s.val * 8 + q.val % 512 / 64, by omega⟩ ⟨q.val % 64, by omega⟩ d))
              (Y m c (ix4 0 ⟨s.val * 8 + q.val % 512 / 64, by omega⟩ ⟨q.val % 64, by omega⟩ d)) := by
  unfold Pay.fed
  refine Finset.sum_congr rfl fun d _ => ?_
  dsimp only
  rw [u_block, m_block, V_m m c s ⟨q.val % 512 / 64 * 16 + d.val, by omega⟩ (Pay.pick q), if_pos (by simp only [Pay.pick]; omega)]
  have e0 : 128 * s.val + (q.val % 512 / 64 * 16 + d.val) = (s.val * 8 + q.val % 512 / 64) * 16 + d.val := by omega
  have e1 : (q.val % 512 / 64 * 16 + d.val) / 16 = q.val % 512 / 64 := by omega
  have e2 : (q.val % 512 / 64 * 16 + d.val) % 16 = d.val := by omega
  have e3 : (q.val / 512 * 64 + q.val % 64) % 64 = q.val % 64 := by omega
  simp only [e0, e1, e2, e3]

theorem fed_im (s : Fin 4) (n : Fin 32) (q : Fin 1024) (hq : ¬ q.val < 512) :
    Pay.fed (fun r k => iblk m c 2 t0_0 (ix3 s ⟨896 + r.val, by omega⟩ k)) (fun n r => iblk m c 0 t0_0 (ix2 n ⟨128 * s.val + r.val, by omega⟩)) n q
      = ∑ d : Fin 16, U m c (ix2 n ⟨(s.val * 8 + q.val % 512 / 64) * 16 + d.val, by omega⟩)
          * wim (A m c (ix3 0 ⟨s.val * 8 + q.val % 512 / 64, by omega⟩ ⟨q.val % 64, by omega⟩))
              (B m c (ix3 0 ⟨s.val * 8 + q.val % 512 / 64, by omega⟩ ⟨q.val % 64, by omega⟩)) (L m c (ix2 0 ⟨s.val * 8 + q.val % 512 / 64, by omega⟩))
              (X m c (ix4 0 ⟨s.val * 8 + q.val % 512 / 64, by omega⟩ ⟨q.val % 64, by omega⟩ d))
              (Y m c (ix4 0 ⟨s.val * 8 + q.val % 512 / 64, by omega⟩ ⟨q.val % 64, by omega⟩ d)) := by
  unfold Pay.fed
  refine Finset.sum_congr rfl fun d _ => ?_
  dsimp only
  rw [u_block, m_block, V_m m c s ⟨q.val % 512 / 64 * 16 + d.val, by omega⟩ (Pay.pick q), if_neg (by simp only [Pay.pick]; omega)]
  have e0 : 128 * s.val + (q.val % 512 / 64 * 16 + d.val) = (s.val * 8 + q.val % 512 / 64) * 16 + d.val := by omega
  have e1 : (q.val % 512 / 64 * 16 + d.val) / 16 = q.val % 512 / 64 := by omega
  have e2 : (q.val % 512 / 64 * 16 + d.val) % 16 = d.val := by omega
  have e3 : (q.val / 512 * 64 + q.val % 64) % 64 = q.val % 64 := by omega
  simp only [e0, e1, e2, e3]

/-- A slice's new states, of the blocks, are the reference's. -/
theorem slice_block (s : Fin 4) (n : Fin 32) (q : Fin 1024) :
    Pay.at_s (iblk m c 0 t0_0) (iblk m c 2 t0_0) (iblk m c 4 t0_0) (iblk m c 6 t0_0) s n q
      = Cert.StepRefIdeal.Rows.state (U m c) (A m c) (B m c) (L m c) (X m c) (Y m c) (H m c) (K m c) s n q := by
  unfold Pay.at_s Pay.slice Cert.StepRefIdeal.Rows.state new re im
  simp only [a_block, h_block]
  by_cases hq : q.val < 512
  · have e1 : q.val % 512 = q.val := by omega
    have e2 : (512 + q.val) % 512 = q.val := by omega
    have e3 : (512 + q.val) % 64 = q.val % 64 := by omega
    have e4 : ¬ 512 + q.val < 512 := by omega
    rw [dif_pos hq, if_pos hq, fed_re m c s n q hq]
    rw [V_are m c s ⟨q.val, hq⟩, V_aim m c s ⟨q.val, hq⟩, V_h m c s n q, V_h m c s n ⟨512 + q.val, by omega⟩]
    simp only [if_pos hq, if_neg e4, e1, e2, e3]
    rw [sub_eq_add_neg, sub_eq_add_neg, add_assoc]
  · have e1 : q.val % 512 = q.val - 512 := by omega
    have e2 : (q.val - 512) % 512 = q.val - 512 := by omega
    have e3 : (q.val - 512) % 64 = q.val % 64 := by omega
    have e4 : q.val - 512 < 512 := by omega
    rw [dif_neg hq, if_neg hq, fed_im m c s n q hq]
    rw [V_are m c s ⟨q.val - 512, by omega⟩, V_aim m c s ⟨q.val - 512, by omega⟩, V_h m c s n q, V_h m c s n ⟨q.val - 512, by omega⟩]
    simp only [if_neg hq, if_pos e4, e1, e2, e3]
    rw [add_assoc]

theorem final8 : (dats m 0 c).arrAt 8 cfg0.N
    = Cert.StepRefIdeal.Rows.HF (U m c) (A m c) (B m c) (L m c) (X m c) (Y m c) (H m c) (K m c) := by
  refine (dats m 0 c).arrAt_eq_of_covers 8 _ (by decide +kernel) fun t hf y => ?_
  idx_vars y
  obtain rfl := fin_N0 t
  rw [after0_8]
  have e : ((cfg0.win 8).blk t0_0).view.emb (ix3 y0 y1 y2) = ix3 y0 y1 y2 := by
    blk_ext [idx t0_0]
  have h := (Pay.out_at (iblk m c 0 t0_0) (iblk m c 1 t0_0) (iblk m c 2 t0_0) (iblk m c 3 t0_0) (iblk m c 4 t0_0) (iblk m c 5 t0_0)
    (iblk m c 6 t0_0) y0 y1 y2).trans ((slice_block m c y0 y1 y2).trans
    ((congrArg (Cert.StepRefIdeal.Rows.HF (U m c) (A m c) (B m c) (L m c) (X m c) (Y m c) (H m c) (K m c)) e).trans
      (Cert.StepRefIdeal.Rows.hf_at (U m c) (A m c) (B m c) (L m c) (X m c) (Y m c) (H m c) (K m c) y0 y1 y2)).symm)
  generalize out0_8 (iblk m c 0 t0_0) (iblk m c 1 t0_0) (iblk m c 2 t0_0) (iblk m c 3 t0_0) (iblk m c 4 t0_0) (iblk m c 5 t0_0)
    (iblk m c 6 t0_0) = f at h ⊢
  generalize Cert.StepRefIdeal.Rows.HF (U m c) (A m c) (B m c) (L m c) (X m c) (Y m c) (H m c) (K m c) = z at h ⊢
  exact h

end Cert.StepIdeal.Whole

end
-- ==== Proof.StepClaim.lean ====
/- The claims about the recurrence's step. -/
module

public import proofs.«01_k».proof.Defs
public import proofs.«01_k».proof.Proof.StepVal
public import proofs.«01_k».proof.Proof.Gen.StepIdeal.Frame
public import proofs.«01_k».proof.Proof.Gen.StepRefIdeal.Run

@[expose] public section

set_option maxRecDepth 16384

noncomputable section

open Idealize.ShloMosaic Idealize.ShloMosaic.TcCoe Idealize.SL.Sem

namespace Cert.StepIdeal.Whole

open Cert.StepIdeal Cert.StepIdeal.Gen
open Cert.StepRefIdeal.Rows (HF)

set_option maxHeartbeats 2000000 in
/-- The kernel's run. -/
theorem results (m : (ℓ : Loc nD τ sig) → Buf (Elt Ideal) ℓ) (ρ : Dev nD → PrngReg)
    (u : Dev nD → FVec Ideal S32x512 .f32)
    (a : Dev nD → FVec Ideal S1x32x64 .f32)
    (b : Dev nD → FVec Ideal S1x32x64 .f32)
    (l : Dev nD → FVec Ideal S1x32 .f32)
    (x : Dev nD → FVec Ideal S1x32x64x16 .f32)
    (y : Dev nD → FVec Ideal S1x32x64x16 .f32)
    (v : Dev nD → FVec Ideal S1x32x16x64 .f32)
    (w : Dev nD → FVec Ideal S1x32x16x64 .f32)
    (d : Dev nD → FVec Ideal S1x512 .f32)
    (s : Dev nD → FVec Ideal S1x32x32x64 .f32)
    (k : Dev nD → FVec Ideal S1x32x32x64 .f32)
    (h : ∀ c : Dev nD, m ((c.tc : Thread nD τ).loc main_arg0) = u c
      ∧ m ((c.tc : Thread nD τ).loc main_arg1) = a c
      ∧ m ((c.tc : Thread nD τ).loc main_arg2) = b c
      ∧ m ((c.tc : Thread nD τ).loc main_arg3) = l c
      ∧ m ((c.tc : Thread nD τ).loc main_arg4) = x c
      ∧ m ((c.tc : Thread nD τ).loc main_arg5) = y c
      ∧ m ((c.tc : Thread nD τ).loc main_arg6) = v c
      ∧ m ((c.tc : Thread nD τ).loc main_arg7) = w c
      ∧ m ((c.tc : Thread nD τ).loc main_arg8) = d c
      ∧ m ((c.tc : Thread nD τ).loc main_arg9) = s c
      ∧ m ((c.tc : Thread nD τ).loc main_arg10) = k c) :
    θ_run defs (onTc (τ := τ) (main (F := Ideal))) ⟨m, fun _ => 0, ρ⟩ fun r => ∀ c : Dev nD,
      r.2.mem ((c.tc : Thread nD τ).loc main_v177_1) = HF (u c) (a c) (b c) (l c) (x c) (y c) (s c) (k c) := by
  have hu : u = fun c : Dev nD => m ((c.tc : Thread nD τ).loc main_arg0) := funext fun c => (h c).1.symm
  have ha : a = fun c : Dev nD => m ((c.tc : Thread nD τ).loc main_arg1) := funext fun c => (h c).2.1.symm
  have hb : b = fun c : Dev nD => m ((c.tc : Thread nD τ).loc main_arg2) := funext fun c => (h c).2.2.1.symm
  have hl : l = fun c : Dev nD => m ((c.tc : Thread nD τ).loc main_arg3) := funext fun c => (h c).2.2.2.1.symm
  have hx : x = fun c : Dev nD => m ((c.tc : Thread nD τ).loc main_arg4) := funext fun c => (h c).2.2.2.2.1.symm
  have hy : y = fun c : Dev nD => m ((c.tc : Thread nD τ).loc main_arg5) := funext fun c => (h c).2.2.2.2.2.1.symm
  have hv : v = fun c : Dev nD => m ((c.tc : Thread nD τ).loc main_arg6) := funext fun c => (h c).2.2.2.2.2.2.1.symm
  have hw : w = fun c : Dev nD => m ((c.tc : Thread nD τ).loc main_arg7) := funext fun c => (h c).2.2.2.2.2.2.2.1.symm
  have hd : d = fun c : Dev nD => m ((c.tc : Thread nD τ).loc main_arg8) := funext fun c => (h c).2.2.2.2.2.2.2.2.1.symm
  have hs : s = fun c : Dev nD => m ((c.tc : Thread nD τ).loc main_arg9) := funext fun c => (h c).2.2.2.2.2.2.2.2.2.1.symm
  have hk : k = fun c : Dev nD => m ((c.tc : Thread nD τ).loc main_arg10) := funext fun c => (h c).2.2.2.2.2.2.2.2.2.2.symm
  subst hu ha hb hl hx hy hv hw hd hs hk
  exact (θ_run defs _ _).mono (fun r k c => (k c).2.1.trans (final8 m c)) (Value.run_blocks m ρ)

end Cert.StepIdeal.Whole

namespace Cert.StepRefIdeal.Rows

open Cert.StepRefIdeal Cert.StepRefIdeal.Gen

set_option maxHeartbeats 2000000 in
/-- The reference's run. -/
theorem results (m : (ℓ : Loc nD τ sig) → Buf (Elt Ideal) ℓ) (ρ : Dev nD → PrngReg)
    (u : Dev nD → FVec Ideal S32x512 .f32)
    (a : Dev nD → FVec Ideal S1x32x64 .f32)
    (b : Dev nD → FVec Ideal S1x32x64 .f32)
    (l : Dev nD → FVec Ideal S1x32 .f32)
    (x : Dev nD → FVec Ideal S1x32x64x16 .f32)
    (y : Dev nD → FVec Ideal S1x32x64x16 .f32)
    (v : Dev nD → FVec Ideal S1x32x16x64 .f32)
    (w : Dev nD → FVec Ideal S1x32x16x64 .f32)
    (d : Dev nD → FVec Ideal S1x512 .f32)
    (s : Dev nD → FVec Ideal S1x32x32x64 .f32)
    (k : Dev nD → FVec Ideal S1x32x32x64 .f32)
    (h : ∀ c : Dev nD, m ((c.tc : Thread nD τ).loc main_arg0) = u c
      ∧ m ((c.tc : Thread nD τ).loc main_arg1) = a c
      ∧ m ((c.tc : Thread nD τ).loc main_arg2) = b c
      ∧ m ((c.tc : Thread nD τ).loc main_arg3) = l c
      ∧ m ((c.tc : Thread nD τ).loc main_arg4) = x c
      ∧ m ((c.tc : Thread nD τ).loc main_arg5) = y c
      ∧ m ((c.tc : Thread nD τ).loc main_arg6) = v c
      ∧ m ((c.tc : Thread nD τ).loc main_arg7) = w c
      ∧ m ((c.tc : Thread nD τ).loc main_arg8) = d c
      ∧ m ((c.tc : Thread nD τ).loc main_arg9) = s c
      ∧ m ((c.tc : Thread nD τ).loc main_arg10) = k c) :
    θ_run defs (onTc (τ := τ) (main (F := Ideal))) ⟨m, fun _ => 0, ρ⟩ fun r => ∀ c : Dev nD,
      r.2.mem ((c.tc : Thread nD τ).loc main_v80) = HF (u c) (a c) (b c) (l c) (x c) (y c) (s c) (k c) := by
  have hu : u = fun c : Dev nD => m ((c.tc : Thread nD τ).loc main_arg0) := funext fun c => (h c).1.symm
  have ha : a = fun c : Dev nD => m ((c.tc : Thread nD τ).loc main_arg1) := funext fun c => (h c).2.1.symm
  have hb : b = fun c : Dev nD => m ((c.tc : Thread nD τ).loc main_arg2) := funext fun c => (h c).2.2.1.symm
  have hl : l = fun c : Dev nD => m ((c.tc : Thread nD τ).loc main_arg3) := funext fun c => (h c).2.2.2.1.symm
  have hx : x = fun c : Dev nD => m ((c.tc : Thread nD τ).loc main_arg4) := funext fun c => (h c).2.2.2.2.1.symm
  have hy : y = fun c : Dev nD => m ((c.tc : Thread nD τ).loc main_arg5) := funext fun c => (h c).2.2.2.2.2.1.symm
  have hv : v = fun c : Dev nD => m ((c.tc : Thread nD τ).loc main_arg6) := funext fun c => (h c).2.2.2.2.2.2.1.symm
  have hw : w = fun c : Dev nD => m ((c.tc : Thread nD τ).loc main_arg7) := funext fun c => (h c).2.2.2.2.2.2.2.1.symm
  have hd : d = fun c : Dev nD => m ((c.tc : Thread nD τ).loc main_arg8) := funext fun c => (h c).2.2.2.2.2.2.2.2.1.symm
  have hs : s = fun c : Dev nD => m ((c.tc : Thread nD τ).loc main_arg9) := funext fun c => (h c).2.2.2.2.2.2.2.2.2.1.symm
  have hk : k = fun c : Dev nD => m ((c.tc : Thread nD τ).loc main_arg10) := funext fun c => (h c).2.2.2.2.2.2.2.2.2.2.symm
  subst hu ha hb hl hx hy hv hw hd hs hk
  exact (θ_run defs _ _).mono (fun r k c => (k c).1) (Cert.StepRefIdeal.Value.run m ρ)

end Cert.StepRefIdeal.Rows

namespace Cert.Proof

open Cert.StepRefIdeal.Rows (HF)

/-- The reference keeps its arguments. -/
theorem step_ref : Cert.quiescent_StepRefIdeal := fun m g _ => (θ_run Cert.StepRefIdeal.defs _ _).mono
  (fun r h => ⟨fun c => (h c).2, sem_eq_zero_of_no_sems (sig := Cert.StepRefIdeal.sig) (by decide) _⟩) (Cert.StepRefIdeal.Value.run m g)

/-- The new states the kernel leaves are the reference's. -/
theorem step_algebraic : Cert.algebraic_StepIdeal_StepRefIdeal := by
  intro m g m' g' hpre hagree
  have hk := Cert.StepIdeal.Whole.results m g _ _ _ _ _ _ _ _ _ _ _ (fun c => ⟨rfl, rfl, rfl, rfl, rfl, rfl, rfl, rfl, rfl, rfl, rfl⟩)
  have hr := Cert.StepRefIdeal.Rows.results m' g' _ _ _ _ _ _ _ _ _ _ _ hagree
  have hr' := step_ref m' g' trivial
  have hk' := Cert.StepIdeal.Gen.frame m g
  refine ⟨fun c => HF (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3))
      (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg9)) (m ((c.tc : Thread Cert.StepIdeal.nD Cert.StepIdeal.τ).loc Cert.StepIdeal.main_arg10)),
    (θ_run Cert.StepIdeal.defs _ _).mono (fun r h c => ⟨h.1 c, h.2.1 c⟩) (θ_run_and hk hk'),
    (θ_run Cert.StepRefIdeal.defs _ _).mono (fun r h c => ⟨h.1 c, h.2.1 c⟩) (θ_run_and hr hr')⟩

end Cert.Proof

end
-- ==== Proof.lean ====
/- The proof of the claims, assembled from one module of claims per call of the layer. -/
module

public import proofs.«01_k».proof.Defs
public import proofs.«01_k».proof.Proof.Gen.PostIdeal.Value
public import proofs.«01_k».proof.Proof.Gen.StepIdeal.Value
public import proofs.«01_k».proof.Proof.Gen.InProjSIdeal.Value
public import proofs.«01_k».proof.Proof.Gen.Step.Frame
public import proofs.«01_k».proof.Proof.Gen.StepIdeal.Frame
public import proofs.«01_k».proof.Proof.Gen.InProjS.Frame
public import proofs.«01_k».proof.Proof.Gen.InProjSIdeal.Frame
public import proofs.«01_k».proof.Proof.Gen.InProj.Skeleton
public import proofs.«01_k».proof.Proof.Gen.InProj.Launch
public import proofs.«01_k».proof.Proof.Gen.InProj.Points
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.StepRefIdeal.Run
public import proofs.«01_k».proof.Proof.Gen.InProjSRefIdeal.Run
public import proofs.«01_k».proof.Proof.Gen.InProjRefIdeal.Run
public import proofs.«01_k».proof.Proof.Gen.PostSIdeal.Value
public import proofs.«01_k».proof.Proof.Gen.PostS.Frame
public import proofs.«01_k».proof.Proof.Gen.PostSIdeal.Frame
public import proofs.«01_k».proof.Proof.PostClaim
public import proofs.«01_k».proof.Proof.PostSClaim
public import proofs.«01_k».proof.Proof.InProjClaim
public import proofs.«01_k».proof.Proof.InProjSClaim
public import proofs.«01_k».proof.Proof.StepClaim

@[expose] public section

noncomputable section

namespace Cert.Proof

open Idealize.ShloMosaic Idealize.SL.Sem

theorem claim : Cert.Claim := ⟨Cert.Step.Gen.facts, Cert.StepIdeal.Gen.facts, Cert.StepRefIdeal.Gen.facts,
  Cert.Post.Gen.facts, Cert.PostIdeal.Gen.facts, Cert.PostRefIdeal.Gen.facts,
  Cert.InProj.Gen.facts, Cert.InProjIdeal.Gen.facts, Cert.InProjRefIdeal.Gen.facts,
  Cert.InProjS.Gen.facts, Cert.InProjSIdeal.Gen.facts, Cert.InProjSRefIdeal.Gen.facts,
  Cert.PostS.Gen.facts, Cert.PostSIdeal.Gen.facts, Cert.PostSRefIdeal.Gen.facts,
  fun m ρ _ => Cert.Step.Gen.frame m ρ, fun m ρ _ => Cert.StepIdeal.Gen.frame m ρ, step_ref,
  fun m ρ _ => Cert.Post.Gen.frame m ρ, fun m ρ _ => Cert.PostIdeal.Gen.frame m ρ, post_ref,
  inproj_frame, inproj_ideal_frame, inproj_ref,
  fun m ρ _ => Cert.InProjS.Gen.frame m ρ, fun m ρ _ => Cert.InProjSIdeal.Gen.frame m ρ, inproj_s_ref,
  fun m ρ _ => Cert.PostS.Gen.frame m ρ, fun m ρ _ => Cert.PostSIdeal.Gen.frame m ρ, post_s_ref,
  trivial, step_algebraic, trivial, post_algebraic, trivial, inproj_algebraic, trivial, inproj_s_algebraic,
  trivial, post_s_algebraic⟩

end Cert.Proof

end
